-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x51 : Shape := ⟨2, ![16384, 51]⟩
abbrev S_ : Shape := ⟨0, ![]⟩

class Facts : Prop where
  bcast_S_S16384x51 : S_.BroadcastsInDim S16384x51 (![] : Fin 0 → Fin S16384x51.rank)
  reducesTo_S16384x51_S_d0_1 : S16384x51.ReducesTo [0, 1] S_
  h_S_ : 0 < S_.numel

variable [Facts]

def fn {F : FTy → Type} [FloatOps F] (main_arg0 : FVec F S16384x51 .f32) (main_arg1 : FVec F S16384x51 .f32) : IVec S_ 1 :=
  let main_v0 : FVec F S16384x51 .f32 := Host.absf main_arg0
  let main_cst : FVec F S_ .f32 := constant S_ .f32 0x7F800000#32
  let main_v1 : FVec F S16384x51 .f32 := broadcastInDim S16384x51 ![] bcast_S_S16384x51 main_cst
  let main_v2 : IVec S16384x51 1 := cmpf .olt main_v0 main_v1
  let main_c : IVec S_ 1 := constantI S_ 1 1#1
  let main_v3 : IVec S_ 1 := (fun x v => Host.reduce IntOp.andi x v reducesTo_S16384x51_S_d0_1 h_S_) main_v2 main_c
  let main_v4 : FVec F S16384x51 .f32 := Host.absf main_arg1
  let main_cst_0 : FVec F S_ .f32 := constant S_ .f32 0x7F800000#32
  let main_v5 : FVec F S16384x51 .f32 := broadcastInDim S16384x51 ![] bcast_S_S16384x51 main_cst_0
  let main_v6 : IVec S16384x51 1 := cmpf .olt main_v4 main_v5
  let main_c_1 : IVec S_ 1 := constantI S_ 1 1#1
  let main_v7 : IVec S_ 1 := (fun x v => Host.reduce IntOp.andi x v reducesTo_S16384x51_S_d0_1 h_S_) main_v6 main_c_1
  let main_v8 : IVec S_ 1 := andi main_v3 main_v7
  main_v8
-- ==== Kernel.lean ====
abbrev S16384x51 : Shape := ⟨2, ![16384, 51]⟩
abbrev S2048x51 : Shape := ⟨2, ![2048, 51]⟩
abbrev S104448 : Shape := ⟨1, ![104448]⟩
abbrev S32x16 : Shape := ⟨2, ![32, 16]⟩
abbrev S3264 : Shape := ⟨1, ![3264]⟩
abbrev S16 : Shape := ⟨1, ![16]⟩
abbrev S_ : Shape := ⟨0, ![]⟩
abbrev S1x16 : Shape := ⟨2, ![1, 16]⟩
abbrev S1x1 : Shape := ⟨2, ![1, 1]⟩
abbrev S1024x51 : Shape := ⟨2, ![1024, 51]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Table → Nat
  | .hbm => 14
  | .local .tc .vmem => 4
  | .local .tc .smem => 1
  | .local .scVector .vmem => 3
  | _ => 0

abbrev bufTy : (tb : Table) → Fin (nBuf tb) → BufTy
  | .hbm, ⟨0, _⟩ => ⟨S16384x51, .f32⟩
  | .hbm, ⟨1, _⟩ => ⟨S16384x51, .f32⟩
  | .hbm, ⟨2, _⟩ => ⟨S2048x51, .f32⟩
  | .hbm, ⟨3, _⟩ => ⟨S104448, .f32⟩
  | .hbm, ⟨4, _⟩ => ⟨S2048x51, .f32⟩
  | .hbm, ⟨5, _⟩ => ⟨S104448, .f32⟩
  | .hbm, ⟨6, _⟩ => ⟨S32x16, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local .tc .vmem, ⟨0, _⟩ => ⟨S1024x51, .f32⟩
  | .local .tc .vmem, ⟨1, _⟩ => ⟨S1024x51, .f32⟩
  | .local .tc .vmem, ⟨2, _⟩ => ⟨S1024x51, .f32⟩
  | .local .tc .vmem, ⟨3, _⟩ => ⟨S1024x51, .f32⟩
  | .local .tc .smem, ⟨0, _⟩ => ⟨S1x1, .f32⟩
  | .local .scVector .vmem, ⟨0, _⟩ => ⟨S3264, .f32⟩
  | .local .scVector .vmem, ⟨1, _⟩ => ⟨S3264, .f32⟩
  | .local .scVector .vmem, ⟨2, _⟩ => ⟨S16, .f32⟩
  | _, _ => ⟨S16384x51, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3264_i32 : BitVec 32 := 3264#32
  let v2 : BitVec 32 := Scalar.muli v1 c3264_i32
  ![v2.toNat]
@[reducible] def k0_t1_loop : Scf.Loop 32 :=
  let c0_i32 : BitVec 32 := 0#32
  let c4_i32 : BitVec 32 := 4#32
  let v7 : BitVec 32 := Scalar.addi c0_i32 c4_i32
  let c1_i32 : BitVec 32 := 1#32
  ⟨c0_i32, v7, c1_i32⟩

def k0_chk1 (v14 : IVec S16 32) : Prop :=
  (∀ a x, ((![v14] : Fin 1 → IVec S16 32) a x).toNat < S3264.size a)
theorem k0_idx1_inb : ∀ (v14 : IVec S16 32) (k0_hw1 : k0_chk1 v14), ∀ a x, ((![v14] : Fin 1 → IVec S16 32) a x).toNat < S3264.size a := fun v14 k0_hw1 => k0_hw1

def k0_chk2 (v17 : IVec S16 32) : Prop :=
  (∀ a x, ((![v17] : Fin 1 → IVec S16 32) a x).toNat < S3264.size a)
theorem k0_idx2_inb : ∀ (v17 : IVec S16 32) (k0_hw2 : k0_chk2 v17), ∀ a x, ((![v17] : Fin 1 → IVec S16 32) a x).toNat < S3264.size a := fun v17 k0_hw2 => k0_hw2

def k0_chk3 (v21 : IVec S16 32) : Prop :=
  (∀ a x, ((![v21] : Fin 1 → IVec S16 32) a x).toNat < S3264.size a)
theorem k0_idx3_inb : ∀ (v21 : IVec S16 32) (k0_hw3 : k0_chk3 v21), ∀ a x, ((![v21] : Fin 1 → IVec S16 32) a x).toNat < S3264.size a := fun v21 k0_hw3 => k0_hw3

def k0_chk4 (v25 : IVec S16 32) : Prop :=
  (∀ a x, ((![v25] : Fin 1 → IVec S16 32) a x).toNat < S3264.size a)
theorem k0_idx4_inb : ∀ (v25 : IVec S16 32) (k0_hw4 : k0_chk4 v25), ∀ a x, ((![v25] : Fin 1 → IVec S16 32) a x).toNat < S3264.size a := fun v25 k0_hw4 => k0_hw4

def k0_chk5 (v29 : IVec S16 32) : Prop :=
  (∀ a x, ((![v29] : Fin 1 → IVec S16 32) a x).toNat < S3264.size a)
theorem k0_idx5_inb : ∀ (v29 : IVec S16 32) (k0_hw5 : k0_chk5 v29), ∀ a x, ((![v29] : Fin 1 → IVec S16 32) a x).toNat < S3264.size a := fun v29 k0_hw5 => k0_hw5

def k0_chk6 (v33 : IVec S16 32) : Prop :=
  (∀ a x, ((![v33] : Fin 1 → IVec S16 32) a x).toNat < S3264.size a)
theorem k0_idx6_inb : ∀ (v33 : IVec S16 32) (k0_hw6 : k0_chk6 v33), ∀ a x, ((![v33] : Fin 1 → IVec S16 32) a x).toNat < S3264.size a := fun v33 k0_hw6 => k0_hw6

def k0_chk7 (v37 : IVec S16 32) : Prop :=
  (∀ a x, ((![v37] : Fin 1 → IVec S16 32) a x).toNat < S3264.size a)
theorem k0_idx7_inb : ∀ (v37 : IVec S16 32) (k0_hw7 : k0_chk7 v37), ∀ a x, ((![v37] : Fin 1 → IVec S16 32) a x).toNat < S3264.size a := fun v37 k0_hw7 => k0_hw7

def k0_chk8 (v41 : IVec S16 32) : Prop :=
  (∀ a x, ((![v41] : Fin 1 → IVec S16 32) a x).toNat < S3264.size a)
theorem k0_idx8_inb : ∀ (v41 : IVec S16 32) (k0_hw8 : k0_chk8 v41), ∀ a x, ((![v41] : Fin 1 → IVec S16 32) a x).toNat < S3264.size a := fun v41 k0_hw8 => k0_hw8

def k0_chk9 (v45 : IVec S16 32) : Prop :=
  (∀ a x, ((![v45] : Fin 1 → IVec S16 32) a x).toNat < S3264.size a)
theorem k0_idx9_inb : ∀ (v45 : IVec S16 32) (k0_hw9 : k0_chk9 v45), ∀ a x, ((![v45] : Fin 1 → IVec S16 32) a x).toNat < S3264.size a := fun v45 k0_hw9 => k0_hw9

def k0_chk10 (v49 : IVec S16 32) : Prop :=
  (∀ a x, ((![v49] : Fin 1 → IVec S16 32) a x).toNat < S3264.size a)
theorem k0_idx10_inb : ∀ (v49 : IVec S16 32) (k0_hw10 : k0_chk10 v49), ∀ a x, ((![v49] : Fin 1 → IVec S16 32) a x).toNat < S3264.size a := fun v49 k0_hw10 => k0_hw10

def k0_chk11 (v53 : IVec S16 32) : Prop :=
  (∀ a x, ((![v53] : Fin 1 → IVec S16 32) a x).toNat < S3264.size a)
theorem k0_idx11_inb : ∀ (v53 : IVec S16 32) (k0_hw11 : k0_chk11 v53), ∀ a x, ((![v53] : Fin 1 → IVec S16 32) a x).toNat < S3264.size a := fun v53 k0_hw11 => k0_hw11

def k0_chk12 (v57 : IVec S16 32) : Prop :=
  (∀ a x, ((![v57] : Fin 1 → IVec S16 32) a x).toNat < S3264.size a)
theorem k0_idx12_inb : ∀ (v57 : IVec S16 32) (k0_hw12 : k0_chk12 v57), ∀ a x, ((![v57] : Fin 1 → IVec S16 32) a x).toNat < S3264.size a := fun v57 k0_hw12 => k0_hw12

def k0_chk13 (v61 : IVec S16 32) : Prop :=
  (∀ a x, ((![v61] : Fin 1 → IVec S16 32) a x).toNat < S3264.size a)
theorem k0_idx13_inb : ∀ (v61 : IVec S16 32) (k0_hw13 : k0_chk13 v61), ∀ a x, ((![v61] : Fin 1 → IVec S16 32) a x).toNat < S3264.size a := fun v61 k0_hw13 => k0_hw13

def k0_chk14 (v65 : IVec S16 32) : Prop :=
  (∀ a x, ((![v65] : Fin 1 → IVec S16 32) a x).toNat < S3264.size a)
theorem k0_idx14_inb : ∀ (v65 : IVec S16 32) (k0_hw14 : k0_chk14 v65), ∀ a x, ((![v65] : Fin 1 → IVec S16 32) a x).toNat < S3264.size a := fun v65 k0_hw14 => k0_hw14

def k0_chk15 (v69 : IVec S16 32) : Prop :=
  (∀ a x, ((![v69] : Fin 1 → IVec S16 32) a x).toNat < S3264.size a)
theorem k0_idx15_inb : ∀ (v69 : IVec S16 32) (k0_hw15 : k0_chk15 v69), ∀ a x, ((![v69] : Fin 1 → IVec S16 32) a x).toNat < S3264.size a := fun v69 k0_hw15 => k0_hw15

def k0_chk16 (v73 : IVec S16 32) : Prop :=
  (∀ a x, ((![v73] : Fin 1 → IVec S16 32) a x).toNat < S3264.size a)
theorem k0_idx16_inb : ∀ (v73 : IVec S16 32) (k0_hw16 : k0_chk16 v73), ∀ a x, ((![v73] : Fin 1 → IVec S16 32) a x).toNat < S3264.size a := fun v73 k0_hw16 => k0_hw16

def k0_chk17 (v77 : IVec S16 32) : Prop :=
  (∀ a x, ((![v77] : Fin 1 → IVec S16 32) a x).toNat < S3264.size a)
theorem k0_idx17_inb : ∀ (v77 : IVec S16 32) (k0_hw17 : k0_chk17 v77), ∀ a x, ((![v77] : Fin 1 → IVec S16 32) a x).toNat < S3264.size a := fun v77 k0_hw17 => k0_hw17

def k0_chk18 (v81 : IVec S16 32) : Prop :=
  (∀ a x, ((![v81] : Fin 1 → IVec S16 32) a x).toNat < S3264.size a)
theorem k0_idx18_inb : ∀ (v81 : IVec S16 32) (k0_hw18 : k0_chk18 v81), ∀ a x, ((![v81] : Fin 1 → IVec S16 32) a x).toNat < S3264.size a := fun v81 k0_hw18 => k0_hw18

def k0_chk19 (v84 : IVec S16 32) : Prop :=
  (∀ a x, ((![v84] : Fin 1 → IVec S16 32) a x).toNat < S3264.size a)
theorem k0_idx19_inb : ∀ (v84 : IVec S16 32) (k0_hw19 : k0_chk19 v84), ∀ a x, ((![v84] : Fin 1 → IVec S16 32) a x).toNat < S3264.size a := fun v84 k0_hw19 => k0_hw19

def k0_chk20 (v88 : IVec S16 32) : Prop :=
  (∀ a x, ((![v88] : Fin 1 → IVec S16 32) a x).toNat < S3264.size a)
theorem k0_idx20_inb : ∀ (v88 : IVec S16 32) (k0_hw20 : k0_chk20 v88), ∀ a x, ((![v88] : Fin 1 → IVec S16 32) a x).toNat < S3264.size a := fun v88 k0_hw20 => k0_hw20

def k0_chk21 (v92 : IVec S16 32) : Prop :=
  (∀ a x, ((![v92] : Fin 1 → IVec S16 32) a x).toNat < S3264.size a)
theorem k0_idx21_inb : ∀ (v92 : IVec S16 32) (k0_hw21 : k0_chk21 v92), ∀ a x, ((![v92] : Fin 1 → IVec S16 32) a x).toNat < S3264.size a := fun v92 k0_hw21 => k0_hw21

def k0_chk22 (v96 : IVec S16 32) : Prop :=
  (∀ a x, ((![v96] : Fin 1 → IVec S16 32) a x).toNat < S3264.size a)
theorem k0_idx22_inb : ∀ (v96 : IVec S16 32) (k0_hw22 : k0_chk22 v96), ∀ a x, ((![v96] : Fin 1 → IVec S16 32) a x).toNat < S3264.size a := fun v96 k0_hw22 => k0_hw22

def k0_chk23 (v100 : IVec S16 32) : Prop :=
  (∀ a x, ((![v100] : Fin 1 → IVec S16 32) a x).toNat < S3264.size a)
theorem k0_idx23_inb : ∀ (v100 : IVec S16 32) (k0_hw23 : k0_chk23 v100), ∀ a x, ((![v100] : Fin 1 → IVec S16 32) a x).toNat < S3264.size a := fun v100 k0_hw23 => k0_hw23

def k0_chk24 (v104 : IVec S16 32) : Prop :=
  (∀ a x, ((![v104] : Fin 1 → IVec S16 32) a x).toNat < S3264.size a)
theorem k0_idx24_inb : ∀ (v104 : IVec S16 32) (k0_hw24 : k0_chk24 v104), ∀ a x, ((![v104] : Fin 1 → IVec S16 32) a x).toNat < S3264.size a := fun v104 k0_hw24 => k0_hw24

def k0_chk25 (v108 : IVec S16 32) : Prop :=
  (∀ a x, ((![v108] : Fin 1 → IVec S16 32) a x).toNat < S3264.size a)
theorem k0_idx25_inb : ∀ (v108 : IVec S16 32) (k0_hw25 : k0_chk25 v108), ∀ a x, ((![v108] : Fin 1 → IVec S16 32) a x).toNat < S3264.size a := fun v108 k0_hw25 => k0_hw25

def k0_chk26 (v112 : IVec S16 32) : Prop :=
  (∀ a x, ((![v112] : Fin 1 → IVec S16 32) a x).toNat < S3264.size a)
theorem k0_idx26_inb : ∀ (v112 : IVec S16 32) (k0_hw26 : k0_chk26 v112), ∀ a x, ((![v112] : Fin 1 → IVec S16 32) a x).toNat < S3264.size a := fun v112 k0_hw26 => k0_hw26

def k0_chk27 (v116 : IVec S16 32) : Prop :=
  (∀ a x, ((![v116] : Fin 1 → IVec S16 32) a x).toNat < S3264.size a)
theorem k0_idx27_inb : ∀ (v116 : IVec S16 32) (k0_hw27 : k0_chk27 v116), ∀ a x, ((![v116] : Fin 1 → IVec S16 32) a x).toNat < S3264.size a := fun v116 k0_hw27 => k0_hw27

def k0_chk28 (v120 : IVec S16 32) : Prop :=
  (∀ a x, ((![v120] : Fin 1 → IVec S16 32) a x).toNat < S3264.size a)
theorem k0_idx28_inb : ∀ (v120 : IVec S16 32) (k0_hw28 : k0_chk28 v120), ∀ a x, ((![v120] : Fin 1 → IVec S16 32) a x).toNat < S3264.size a := fun v120 k0_hw28 => k0_hw28

def k0_chk29 (v124 : IVec S16 32) : Prop :=
  (∀ a x, ((![v124] : Fin 1 → IVec S16 32) a x).toNat < S3264.size a)
theorem k0_idx29_inb : ∀ (v124 : IVec S16 32) (k0_hw29 : k0_chk29 v124), ∀ a x, ((![v124] : Fin 1 → IVec S16 32) a x).toNat < S3264.size a := fun v124 k0_hw29 => k0_hw29

def k0_chk30 (v128 : IVec S16 32) : Prop :=
  (∀ a x, ((![v128] : Fin 1 → IVec S16 32) a x).toNat < S3264.size a)
theorem k0_idx30_inb : ∀ (v128 : IVec S16 32) (k0_hw30 : k0_chk30 v128), ∀ a x, ((![v128] : Fin 1 → IVec S16 32) a x).toNat < S3264.size a := fun v128 k0_hw30 => k0_hw30

def k0_chk31 (v132 : IVec S16 32) : Prop :=
  (∀ a x, ((![v132] : Fin 1 → IVec S16 32) a x).toNat < S3264.size a)
theorem k0_idx31_inb : ∀ (v132 : IVec S16 32) (k0_hw31 : k0_chk31 v132), ∀ a x, ((![v132] : Fin 1 → IVec S16 32) a x).toNat < S3264.size a := fun v132 k0_hw31 => k0_hw31

def k0_chk32 (v136 : IVec S16 32) : Prop :=
  (∀ a x, ((![v136] : Fin 1 → IVec S16 32) a x).toNat < S3264.size a)
theorem k0_idx32_inb : ∀ (v136 : IVec S16 32) (k0_hw32 : k0_chk32 v136), ∀ a x, ((![v136] : Fin 1 → IVec S16 32) a x).toNat < S3264.size a := fun v136 k0_hw32 => k0_hw32

def k0_chk33 (v140 : IVec S16 32) : Prop :=
  (∀ a x, ((![v140] : Fin 1 → IVec S16 32) a x).toNat < S3264.size a)
theorem k0_idx33_inb : ∀ (v140 : IVec S16 32) (k0_hw33 : k0_chk33 v140), ∀ a x, ((![v140] : Fin 1 → IVec S16 32) a x).toNat < S3264.size a := fun v140 k0_hw33 => k0_hw33

def k0_chk34 (v144 : IVec S16 32) : Prop :=
  (∀ a x, ((![v144] : Fin 1 → IVec S16 32) a x).toNat < S3264.size a)
theorem k0_idx34_inb : ∀ (v144 : IVec S16 32) (k0_hw34 : k0_chk34 v144), ∀ a x, ((![v144] : Fin 1 → IVec S16 32) a x).toNat < S3264.size a := fun v144 k0_hw34 => k0_hw34

def k0_chk35 (v148 : IVec S16 32) : Prop :=
  (∀ a x, ((![v148] : Fin 1 → IVec S16 32) a x).toNat < S3264.size a)
theorem k0_idx35_inb : ∀ (v148 : IVec S16 32) (k0_hw35 : k0_chk35 v148), ∀ a x, ((![v148] : Fin 1 → IVec S16 32) a x).toNat < S3264.size a := fun v148 k0_hw35 => k0_hw35

def k0_chk36 (v151 : IVec S16 32) : Prop :=
  (∀ a x, ((![v151] : Fin 1 → IVec S16 32) a x).toNat < S3264.size a)
theorem k0_idx36_inb : ∀ (v151 : IVec S16 32) (k0_hw36 : k0_chk36 v151), ∀ a x, ((![v151] : Fin 1 → IVec S16 32) a x).toNat < S3264.size a := fun v151 k0_hw36 => k0_hw36

def k0_chk37 (v155 : IVec S16 32) : Prop :=
  (∀ a x, ((![v155] : Fin 1 → IVec S16 32) a x).toNat < S3264.size a)
theorem k0_idx37_inb : ∀ (v155 : IVec S16 32) (k0_hw37 : k0_chk37 v155), ∀ a x, ((![v155] : Fin 1 → IVec S16 32) a x).toNat < S3264.size a := fun v155 k0_hw37 => k0_hw37

def k0_chk38 (v159 : IVec S16 32) : Prop :=
  (∀ a x, ((![v159] : Fin 1 → IVec S16 32) a x).toNat < S3264.size a)
theorem k0_idx38_inb : ∀ (v159 : IVec S16 32) (k0_hw38 : k0_chk38 v159), ∀ a x, ((![v159] : Fin 1 → IVec S16 32) a x).toNat < S3264.size a := fun v159 k0_hw38 => k0_hw38

def k0_chk39 (v163 : IVec S16 32) : Prop :=
  (∀ a x, ((![v163] : Fin 1 → IVec S16 32) a x).toNat < S3264.size a)
theorem k0_idx39_inb : ∀ (v163 : IVec S16 32) (k0_hw39 : k0_chk39 v163), ∀ a x, ((![v163] : Fin 1 → IVec S16 32) a x).toNat < S3264.size a := fun v163 k0_hw39 => k0_hw39

def k0_chk40 (v167 : IVec S16 32) : Prop :=
  (∀ a x, ((![v167] : Fin 1 → IVec S16 32) a x).toNat < S3264.size a)
theorem k0_idx40_inb : ∀ (v167 : IVec S16 32) (k0_hw40 : k0_chk40 v167), ∀ a x, ((![v167] : Fin 1 → IVec S16 32) a x).toNat < S3264.size a := fun v167 k0_hw40 => k0_hw40

def k0_chk41 (v171 : IVec S16 32) : Prop :=
  (∀ a x, ((![v171] : Fin 1 → IVec S16 32) a x).toNat < S3264.size a)
theorem k0_idx41_inb : ∀ (v171 : IVec S16 32) (k0_hw41 : k0_chk41 v171), ∀ a x, ((![v171] : Fin 1 → IVec S16 32) a x).toNat < S3264.size a := fun v171 k0_hw41 => k0_hw41

def k0_chk42 (v175 : IVec S16 32) : Prop :=
  (∀ a x, ((![v175] : Fin 1 → IVec S16 32) a x).toNat < S3264.size a)
theorem k0_idx42_inb : ∀ (v175 : IVec S16 32) (k0_hw42 : k0_chk42 v175), ∀ a x, ((![v175] : Fin 1 → IVec S16 32) a x).toNat < S3264.size a := fun v175 k0_hw42 => k0_hw42

def k0_chk43 (v179 : IVec S16 32) : Prop :=
  (∀ a x, ((![v179] : Fin 1 → IVec S16 32) a x).toNat < S3264.size a)
theorem k0_idx43_inb : ∀ (v179 : IVec S16 32) (k0_hw43 : k0_chk43 v179), ∀ a x, ((![v179] : Fin 1 → IVec S16 32) a x).toNat < S3264.size a := fun v179 k0_hw43 => k0_hw43

def k0_chk44 (v183 : IVec S16 32) : Prop :=
  (∀ a x, ((![v183] : Fin 1 → IVec S16 32) a x).toNat < S3264.size a)
theorem k0_idx44_inb : ∀ (v183 : IVec S16 32) (k0_hw44 : k0_chk44 v183), ∀ a x, ((![v183] : Fin 1 → IVec S16 32) a x).toNat < S3264.size a := fun v183 k0_hw44 => k0_hw44

def k0_chk45 (v187 : IVec S16 32) : Prop :=
  (∀ a x, ((![v187] : Fin 1 → IVec S16 32) a x).toNat < S3264.size a)
theorem k0_idx45_inb : ∀ (v187 : IVec S16 32) (k0_hw45 : k0_chk45 v187), ∀ a x, ((![v187] : Fin 1 → IVec S16 32) a x).toNat < S3264.size a := fun v187 k0_hw45 => k0_hw45

def k0_chk46 (v191 : IVec S16 32) : Prop :=
  (∀ a x, ((![v191] : Fin 1 → IVec S16 32) a x).toNat < S3264.size a)
theorem k0_idx46_inb : ∀ (v191 : IVec S16 32) (k0_hw46 : k0_chk46 v191), ∀ a x, ((![v191] : Fin 1 → IVec S16 32) a x).toNat < S3264.size a := fun v191 k0_hw46 => k0_hw46

def k0_chk47 (v195 : IVec S16 32) : Prop :=
  (∀ a x, ((![v195] : Fin 1 → IVec S16 32) a x).toNat < S3264.size a)
theorem k0_idx47_inb : ∀ (v195 : IVec S16 32) (k0_hw47 : k0_chk47 v195), ∀ a x, ((![v195] : Fin 1 → IVec S16 32) a x).toNat < S3264.size a := fun v195 k0_hw47 => k0_hw47

def k0_chk48 (v199 : IVec S16 32) : Prop :=
  (∀ a x, ((![v199] : Fin 1 → IVec S16 32) a x).toNat < S3264.size a)
theorem k0_idx48_inb : ∀ (v199 : IVec S16 32) (k0_hw48 : k0_chk48 v199), ∀ a x, ((![v199] : Fin 1 → IVec S16 32) a x).toNat < S3264.size a := fun v199 k0_hw48 => k0_hw48

def k0_chk49 (v203 : IVec S16 32) : Prop :=
  (∀ a x, ((![v203] : Fin 1 → IVec S16 32) a x).toNat < S3264.size a)
theorem k0_idx49_inb : ∀ (v203 : IVec S16 32) (k0_hw49 : k0_chk49 v203), ∀ a x, ((![v203] : Fin 1 → IVec S16 32) a x).toNat < S3264.size a := fun v203 k0_hw49 => k0_hw49

def k0_chk50 (v207 : IVec S16 32) : Prop :=
  (∀ a x, ((![v207] : Fin 1 → IVec S16 32) a x).toNat < S3264.size a)
theorem k0_idx50_inb : ∀ (v207 : IVec S16 32) (k0_hw50 : k0_chk50 v207), ∀ a x, ((![v207] : Fin 1 → IVec S16 32) a x).toNat < S3264.size a := fun v207 k0_hw50 => k0_hw50

def k0_chk51 (v211 : IVec S16 32) : Prop :=
  (∀ a x, ((![v211] : Fin 1 → IVec S16 32) a x).toNat < S3264.size a)
theorem k0_idx51_inb : ∀ (v211 : IVec S16 32) (k0_hw51 : k0_chk51 v211), ∀ a x, ((![v211] : Fin 1 → IVec S16 32) a x).toNat < S3264.size a := fun v211 k0_hw51 => k0_hw51

def k0_chk52 (v217 : IVec S16 32) : Prop :=
  (∀ a x, ((![v217] : Fin 1 → IVec S16 32) a x).toNat < S3264.size a) ∧
  (∀ a x, ((![v217] : Fin 1 → IVec S16 32) a x).toNat < S3264.size a)
theorem k0_idx52_inb : ∀ (v217 : IVec S16 32) (k0_hw52 : k0_chk52 v217), ∀ a x, ((![v217] : Fin 1 → IVec S16 32) a x).toNat < S3264.size a := fun v217 k0_hw52 => k0_hw52.1
theorem k0_idx53_inb : ∀ (v217 : IVec S16 32) (k0_hw52 : k0_chk52 v217), ∀ a x, ((![v217] : Fin 1 → IVec S16 32) a x).toNat < S3264.size a := fun v217 k0_hw52 => k0_hw52.2

def k0_chk53 (v224 : IVec S16 32) : Prop :=
  (∀ a x, ((![v224] : Fin 1 → IVec S16 32) a x).toNat < S3264.size a) ∧
  (∀ a x, ((![v224] : Fin 1 → IVec S16 32) a x).toNat < S3264.size a)
theorem k0_idx54_inb : ∀ (v224 : IVec S16 32) (k0_hw53 : k0_chk53 v224), ∀ a x, ((![v224] : Fin 1 → IVec S16 32) a x).toNat < S3264.size a := fun v224 k0_hw53 => k0_hw53.1
theorem k0_idx55_inb : ∀ (v224 : IVec S16 32) (k0_hw53 : k0_chk53 v224), ∀ a x, ((![v224] : Fin 1 → IVec S16 32) a x).toNat < S3264.size a := fun v224 k0_hw53 => k0_hw53.2

def k0_chk54 (v234 : IVec S16 32) : Prop :=
  (∀ a x, ((![v234] : Fin 1 → IVec S16 32) a x).toNat < S3264.size a) ∧
  (∀ a x, ((![v234] : Fin 1 → IVec S16 32) a x).toNat < S3264.size a)
theorem k0_idx56_inb : ∀ (v234 : IVec S16 32) (k0_hw54 : k0_chk54 v234), ∀ a x, ((![v234] : Fin 1 → IVec S16 32) a x).toNat < S3264.size a := fun v234 k0_hw54 => k0_hw54.1
theorem k0_idx57_inb : ∀ (v234 : IVec S16 32) (k0_hw54 : k0_chk54 v234), ∀ a x, ((![v234] : Fin 1 → IVec S16 32) a x).toNat < S3264.size a := fun v234 k0_hw54 => k0_hw54.2

def k0_chk55 (v244 : IVec S16 32) : Prop :=
  (∀ a x, ((![v244] : Fin 1 → IVec S16 32) a x).toNat < S3264.size a) ∧
  (∀ a x, ((![v244] : Fin 1 → IVec S16 32) a x).toNat < S3264.size a)
theorem k0_idx58_inb : ∀ (v244 : IVec S16 32) (k0_hw55 : k0_chk55 v244), ∀ a x, ((![v244] : Fin 1 → IVec S16 32) a x).toNat < S3264.size a := fun v244 k0_hw55 => k0_hw55.1
theorem k0_idx59_inb : ∀ (v244 : IVec S16 32) (k0_hw55 : k0_chk55 v244), ∀ a x, ((![v244] : Fin 1 → IVec S16 32) a x).toNat < S3264.size a := fun v244 k0_hw55 => k0_hw55.2

def k0_chk56 (v254 : IVec S16 32) : Prop :=
  (∀ a x, ((![v254] : Fin 1 → IVec S16 32) a x).toNat < S3264.size a) ∧
  (∀ a x, ((![v254] : Fin 1 → IVec S16 32) a x).toNat < S3264.size a)
theorem k0_idx60_inb : ∀ (v254 : IVec S16 32) (k0_hw56 : k0_chk56 v254), ∀ a x, ((![v254] : Fin 1 → IVec S16 32) a x).toNat < S3264.size a := fun v254 k0_hw56 => k0_hw56.1
theorem k0_idx61_inb : ∀ (v254 : IVec S16 32) (k0_hw56 : k0_chk56 v254), ∀ a x, ((![v254] : Fin 1 → IVec S16 32) a x).toNat < S3264.size a := fun v254 k0_hw56 => k0_hw56.2

def k0_chk57 (v264 : IVec S16 32) : Prop :=
  (∀ a x, ((![v264] : Fin 1 → IVec S16 32) a x).toNat < S3264.size a) ∧
  (∀ a x, ((![v264] : Fin 1 → IVec S16 32) a x).toNat < S3264.size a)
theorem k0_idx62_inb : ∀ (v264 : IVec S16 32) (k0_hw57 : k0_chk57 v264), ∀ a x, ((![v264] : Fin 1 → IVec S16 32) a x).toNat < S3264.size a := fun v264 k0_hw57 => k0_hw57.1
theorem k0_idx63_inb : ∀ (v264 : IVec S16 32) (k0_hw57 : k0_chk57 v264), ∀ a x, ((![v264] : Fin 1 → IVec S16 32) a x).toNat < S3264.size a := fun v264 k0_hw57 => k0_hw57.2

def k0_chk58 (v274 : IVec S16 32) : Prop :=
  (∀ a x, ((![v274] : Fin 1 → IVec S16 32) a x).toNat < S3264.size a) ∧
  (∀ a x, ((![v274] : Fin 1 → IVec S16 32) a x).toNat < S3264.size a)
theorem k0_idx64_inb : ∀ (v274 : IVec S16 32) (k0_hw58 : k0_chk58 v274), ∀ a x, ((![v274] : Fin 1 → IVec S16 32) a x).toNat < S3264.size a := fun v274 k0_hw58 => k0_hw58.1
theorem k0_idx65_inb : ∀ (v274 : IVec S16 32) (k0_hw58 : k0_chk58 v274), ∀ a x, ((![v274] : Fin 1 → IVec S16 32) a x).toNat < S3264.size a := fun v274 k0_hw58 => k0_hw58.2

def k0_chk59 (v284 : IVec S16 32) : Prop :=
  (∀ a x, ((![v284] : Fin 1 → IVec S16 32) a x).toNat < S3264.size a) ∧
  (∀ a x, ((![v284] : Fin 1 → IVec S16 32) a x).toNat < S3264.size a)
theorem k0_idx66_inb : ∀ (v284 : IVec S16 32) (k0_hw59 : k0_chk59 v284), ∀ a x, ((![v284] : Fin 1 → IVec S16 32) a x).toNat < S3264.size a := fun v284 k0_hw59 => k0_hw59.1
theorem k0_idx67_inb : ∀ (v284 : IVec S16 32) (k0_hw59 : k0_chk59 v284), ∀ a x, ((![v284] : Fin 1 → IVec S16 32) a x).toNat < S3264.size a := fun v284 k0_hw59 => k0_hw59.2

def k0_chk60 (v294 : IVec S16 32) : Prop :=
  (∀ a x, ((![v294] : Fin 1 → IVec S16 32) a x).toNat < S3264.size a) ∧
  (∀ a x, ((![v294] : Fin 1 → IVec S16 32) a x).toNat < S3264.size a)
theorem k0_idx68_inb : ∀ (v294 : IVec S16 32) (k0_hw60 : k0_chk60 v294), ∀ a x, ((![v294] : Fin 1 → IVec S16 32) a x).toNat < S3264.size a := fun v294 k0_hw60 => k0_hw60.1
theorem k0_idx69_inb : ∀ (v294 : IVec S16 32) (k0_hw60 : k0_chk60 v294), ∀ a x, ((![v294] : Fin 1 → IVec S16 32) a x).toNat < S3264.size a := fun v294 k0_hw60 => k0_hw60.2

def k0_chk61 (v304 : IVec S16 32) : Prop :=
  (∀ a x, ((![v304] : Fin 1 → IVec S16 32) a x).toNat < S3264.size a) ∧
  (∀ a x, ((![v304] : Fin 1 → IVec S16 32) a x).toNat < S3264.size a)
theorem k0_idx70_inb : ∀ (v304 : IVec S16 32) (k0_hw61 : k0_chk61 v304), ∀ a x, ((![v304] : Fin 1 → IVec S16 32) a x).toNat < S3264.size a := fun v304 k0_hw61 => k0_hw61.1
theorem k0_idx71_inb : ∀ (v304 : IVec S16 32) (k0_hw61 : k0_chk61 v304), ∀ a x, ((![v304] : Fin 1 → IVec S16 32) a x).toNat < S3264.size a := fun v304 k0_hw61 => k0_hw61.2

def k0_chk62 (v314 : IVec S16 32) : Prop :=
  (∀ a x, ((![v314] : Fin 1 → IVec S16 32) a x).toNat < S3264.size a) ∧
  (∀ a x, ((![v314] : Fin 1 → IVec S16 32) a x).toNat < S3264.size a)
theorem k0_idx72_inb : ∀ (v314 : IVec S16 32) (k0_hw62 : k0_chk62 v314), ∀ a x, ((![v314] : Fin 1 → IVec S16 32) a x).toNat < S3264.size a := fun v314 k0_hw62 => k0_hw62.1
theorem k0_idx73_inb : ∀ (v314 : IVec S16 32) (k0_hw62 : k0_chk62 v314), ∀ a x, ((![v314] : Fin 1 → IVec S16 32) a x).toNat < S3264.size a := fun v314 k0_hw62 => k0_hw62.2

def k0_chk63 (v324 : IVec S16 32) : Prop :=
  (∀ a x, ((![v324] : Fin 1 → IVec S16 32) a x).toNat < S3264.size a) ∧
  (∀ a x, ((![v324] : Fin 1 → IVec S16 32) a x).toNat < S3264.size a)
theorem k0_idx74_inb : ∀ (v324 : IVec S16 32) (k0_hw63 : k0_chk63 v324), ∀ a x, ((![v324] : Fin 1 → IVec S16 32) a x).toNat < S3264.size a := fun v324 k0_hw63 => k0_hw63.1
theorem k0_idx75_inb : ∀ (v324 : IVec S16 32) (k0_hw63 : k0_chk63 v324), ∀ a x, ((![v324] : Fin 1 → IVec S16 32) a x).toNat < S3264.size a := fun v324 k0_hw63 => k0_hw63.2

def k0_chk64 (v334 : IVec S16 32) : Prop :=
  (∀ a x, ((![v334] : Fin 1 → IVec S16 32) a x).toNat < S3264.size a) ∧
  (∀ a x, ((![v334] : Fin 1 → IVec S16 32) a x).toNat < S3264.size a)
theorem k0_idx76_inb : ∀ (v334 : IVec S16 32) (k0_hw64 : k0_chk64 v334), ∀ a x, ((![v334] : Fin 1 → IVec S16 32) a x).toNat < S3264.size a := fun v334 k0_hw64 => k0_hw64.1
theorem k0_idx77_inb : ∀ (v334 : IVec S16 32) (k0_hw64 : k0_chk64 v334), ∀ a x, ((![v334] : Fin 1 → IVec S16 32) a x).toNat < S3264.size a := fun v334 k0_hw64 => k0_hw64.2

def k0_chk65 (v344 : IVec S16 32) : Prop :=
  (∀ a x, ((![v344] : Fin 1 → IVec S16 32) a x).toNat < S3264.size a) ∧
  (∀ a x, ((![v344] : Fin 1 → IVec S16 32) a x).toNat < S3264.size a)
theorem k0_idx78_inb : ∀ (v344 : IVec S16 32) (k0_hw65 : k0_chk65 v344), ∀ a x, ((![v344] : Fin 1 → IVec S16 32) a x).toNat < S3264.size a := fun v344 k0_hw65 => k0_hw65.1
theorem k0_idx79_inb : ∀ (v344 : IVec S16 32) (k0_hw65 : k0_chk65 v344), ∀ a x, ((![v344] : Fin 1 → IVec S16 32) a x).toNat < S3264.size a := fun v344 k0_hw65 => k0_hw65.2

def k0_chk66 (v354 : IVec S16 32) : Prop :=
  (∀ a x, ((![v354] : Fin 1 → IVec S16 32) a x).toNat < S3264.size a) ∧
  (∀ a x, ((![v354] : Fin 1 → IVec S16 32) a x).toNat < S3264.size a)
theorem k0_idx80_inb : ∀ (v354 : IVec S16 32) (k0_hw66 : k0_chk66 v354), ∀ a x, ((![v354] : Fin 1 → IVec S16 32) a x).toNat < S3264.size a := fun v354 k0_hw66 => k0_hw66.1
theorem k0_idx81_inb : ∀ (v354 : IVec S16 32) (k0_hw66 : k0_chk66 v354), ∀ a x, ((![v354] : Fin 1 → IVec S16 32) a x).toNat < S3264.size a := fun v354 k0_hw66 => k0_hw66.2

def k0_chk67 (v364 : IVec S16 32) : Prop :=
  (∀ a x, ((![v364] : Fin 1 → IVec S16 32) a x).toNat < S3264.size a) ∧
  (∀ a x, ((![v364] : Fin 1 → IVec S16 32) a x).toNat < S3264.size a)
theorem k0_idx82_inb : ∀ (v364 : IVec S16 32) (k0_hw67 : k0_chk67 v364), ∀ a x, ((![v364] : Fin 1 → IVec S16 32) a x).toNat < S3264.size a := fun v364 k0_hw67 => k0_hw67.1
theorem k0_idx83_inb : ∀ (v364 : IVec S16 32) (k0_hw67 : k0_chk67 v364), ∀ a x, ((![v364] : Fin 1 → IVec S16 32) a x).toNat < S3264.size a := fun v364 k0_hw67 => k0_hw67.2

def k0_chk68 (v374 : IVec S16 32) : Prop :=
  (∀ a x, ((![v374] : Fin 1 → IVec S16 32) a x).toNat < S3264.size a) ∧
  (∀ a x, ((![v374] : Fin 1 → IVec S16 32) a x).toNat < S3264.size a)
theorem k0_idx84_inb : ∀ (v374 : IVec S16 32) (k0_hw68 : k0_chk68 v374), ∀ a x, ((![v374] : Fin 1 → IVec S16 32) a x).toNat < S3264.size a := fun v374 k0_hw68 => k0_hw68.1
theorem k0_idx85_inb : ∀ (v374 : IVec S16 32) (k0_hw68 : k0_chk68 v374), ∀ a x, ((![v374] : Fin 1 → IVec S16 32) a x).toNat < S3264.size a := fun v374 k0_hw68 => k0_hw68.2

def k0_chk69 (v384 : IVec S16 32) : Prop :=
  (∀ a x, ((![v384] : Fin 1 → IVec S16 32) a x).toNat < S3264.size a) ∧
  (∀ a x, ((![v384] : Fin 1 → IVec S16 32) a x).toNat < S3264.size a)
theorem k0_idx86_inb : ∀ (v384 : IVec S16 32) (k0_hw69 : k0_chk69 v384), ∀ a x, ((![v384] : Fin 1 → IVec S16 32) a x).toNat < S3264.size a := fun v384 k0_hw69 => k0_hw69.1
theorem k0_idx87_inb : ∀ (v384 : IVec S16 32) (k0_hw69 : k0_chk69 v384), ∀ a x, ((![v384] : Fin 1 → IVec S16 32) a x).toNat < S3264.size a := fun v384 k0_hw69 => k0_hw69.2

def k0_chk70 (v391 : IVec S16 32) : Prop :=
  (∀ a x, ((![v391] : Fin 1 → IVec S16 32) a x).toNat < S3264.size a) ∧
  (∀ a x, ((![v391] : Fin 1 → IVec S16 32) a x).toNat < S3264.size a)
theorem k0_idx88_inb : ∀ (v391 : IVec S16 32) (k0_hw70 : k0_chk70 v391), ∀ a x, ((![v391] : Fin 1 → IVec S16 32) a x).toNat < S3264.size a := fun v391 k0_hw70 => k0_hw70.1
theorem k0_idx89_inb : ∀ (v391 : IVec S16 32) (k0_hw70 : k0_chk70 v391), ∀ a x, ((![v391] : Fin 1 → IVec S16 32) a x).toNat < S3264.size a := fun v391 k0_hw70 => k0_hw70.2

def k0_chk71 (v401 : IVec S16 32) : Prop :=
  (∀ a x, ((![v401] : Fin 1 → IVec S16 32) a x).toNat < S3264.size a) ∧
  (∀ a x, ((![v401] : Fin 1 → IVec S16 32) a x).toNat < S3264.size a)
theorem k0_idx90_inb : ∀ (v401 : IVec S16 32) (k0_hw71 : k0_chk71 v401), ∀ a x, ((![v401] : Fin 1 → IVec S16 32) a x).toNat < S3264.size a := fun v401 k0_hw71 => k0_hw71.1
theorem k0_idx91_inb : ∀ (v401 : IVec S16 32) (k0_hw71 : k0_chk71 v401), ∀ a x, ((![v401] : Fin 1 → IVec S16 32) a x).toNat < S3264.size a := fun v401 k0_hw71 => k0_hw71.2

def k0_chk72 (v411 : IVec S16 32) : Prop :=
  (∀ a x, ((![v411] : Fin 1 → IVec S16 32) a x).toNat < S3264.size a) ∧
  (∀ a x, ((![v411] : Fin 1 → IVec S16 32) a x).toNat < S3264.size a)
theorem k0_idx92_inb : ∀ (v411 : IVec S16 32) (k0_hw72 : k0_chk72 v411), ∀ a x, ((![v411] : Fin 1 → IVec S16 32) a x).toNat < S3264.size a := fun v411 k0_hw72 => k0_hw72.1
theorem k0_idx93_inb : ∀ (v411 : IVec S16 32) (k0_hw72 : k0_chk72 v411), ∀ a x, ((![v411] : Fin 1 → IVec S16 32) a x).toNat < S3264.size a := fun v411 k0_hw72 => k0_hw72.2

def k0_chk73 (v421 : IVec S16 32) : Prop :=
  (∀ a x, ((![v421] : Fin 1 → IVec S16 32) a x).toNat < S3264.size a) ∧
  (∀ a x, ((![v421] : Fin 1 → IVec S16 32) a x).toNat < S3264.size a)
theorem k0_idx94_inb : ∀ (v421 : IVec S16 32) (k0_hw73 : k0_chk73 v421), ∀ a x, ((![v421] : Fin 1 → IVec S16 32) a x).toNat < S3264.size a := fun v421 k0_hw73 => k0_hw73.1
theorem k0_idx95_inb : ∀ (v421 : IVec S16 32) (k0_hw73 : k0_chk73 v421), ∀ a x, ((![v421] : Fin 1 → IVec S16 32) a x).toNat < S3264.size a := fun v421 k0_hw73 => k0_hw73.2

def k0_chk74 (v431 : IVec S16 32) : Prop :=
  (∀ a x, ((![v431] : Fin 1 → IVec S16 32) a x).toNat < S3264.size a) ∧
  (∀ a x, ((![v431] : Fin 1 → IVec S16 32) a x).toNat < S3264.size a)
theorem k0_idx96_inb : ∀ (v431 : IVec S16 32) (k0_hw74 : k0_chk74 v431), ∀ a x, ((![v431] : Fin 1 → IVec S16 32) a x).toNat < S3264.size a := fun v431 k0_hw74 => k0_hw74.1
theorem k0_idx97_inb : ∀ (v431 : IVec S16 32) (k0_hw74 : k0_chk74 v431), ∀ a x, ((![v431] : Fin 1 → IVec S16 32) a x).toNat < S3264.size a := fun v431 k0_hw74 => k0_hw74.2

def k0_chk75 (v441 : IVec S16 32) : Prop :=
  (∀ a x, ((![v441] : Fin 1 → IVec S16 32) a x).toNat < S3264.size a) ∧
  (∀ a x, ((![v441] : Fin 1 → IVec S16 32) a x).toNat < S3264.size a)
theorem k0_idx98_inb : ∀ (v441 : IVec S16 32) (k0_hw75 : k0_chk75 v441), ∀ a x, ((![v441] : Fin 1 → IVec S16 32) a x).toNat < S3264.size a := fun v441 k0_hw75 => k0_hw75.1
theorem k0_idx99_inb : ∀ (v441 : IVec S16 32) (k0_hw75 : k0_chk75 v441), ∀ a x, ((![v441] : Fin 1 → IVec S16 32) a x).toNat < S3264.size a := fun v441 k0_hw75 => k0_hw75.2

def k0_chk76 (v451 : IVec S16 32) : Prop :=
  (∀ a x, ((![v451] : Fin 1 → IVec S16 32) a x).toNat < S3264.size a) ∧
  (∀ a x, ((![v451] : Fin 1 → IVec S16 32) a x).toNat < S3264.size a)
theorem k0_idx100_inb : ∀ (v451 : IVec S16 32) (k0_hw76 : k0_chk76 v451), ∀ a x, ((![v451] : Fin 1 → IVec S16 32) a x).toNat < S3264.size a := fun v451 k0_hw76 => k0_hw76.1
theorem k0_idx101_inb : ∀ (v451 : IVec S16 32) (k0_hw76 : k0_chk76 v451), ∀ a x, ((![v451] : Fin 1 → IVec S16 32) a x).toNat < S3264.size a := fun v451 k0_hw76 => k0_hw76.2

def k0_chk77 (v461 : IVec S16 32) : Prop :=
  (∀ a x, ((![v461] : Fin 1 → IVec S16 32) a x).toNat < S3264.size a) ∧
  (∀ a x, ((![v461] : Fin 1 → IVec S16 32) a x).toNat < S3264.size a)
theorem k0_idx102_inb : ∀ (v461 : IVec S16 32) (k0_hw77 : k0_chk77 v461), ∀ a x, ((![v461] : Fin 1 → IVec S16 32) a x).toNat < S3264.size a := fun v461 k0_hw77 => k0_hw77.1
theorem k0_idx103_inb : ∀ (v461 : IVec S16 32) (k0_hw77 : k0_chk77 v461), ∀ a x, ((![v461] : Fin 1 → IVec S16 32) a x).toNat < S3264.size a := fun v461 k0_hw77 => k0_hw77.2

def k0_chk78 (v471 : IVec S16 32) : Prop :=
  (∀ a x, ((![v471] : Fin 1 → IVec S16 32) a x).toNat < S3264.size a) ∧
  (∀ a x, ((![v471] : Fin 1 → IVec S16 32) a x).toNat < S3264.size a)
theorem k0_idx104_inb : ∀ (v471 : IVec S16 32) (k0_hw78 : k0_chk78 v471), ∀ a x, ((![v471] : Fin 1 → IVec S16 32) a x).toNat < S3264.size a := fun v471 k0_hw78 => k0_hw78.1
theorem k0_idx105_inb : ∀ (v471 : IVec S16 32) (k0_hw78 : k0_chk78 v471), ∀ a x, ((![v471] : Fin 1 → IVec S16 32) a x).toNat < S3264.size a := fun v471 k0_hw78 => k0_hw78.2

def k0_chk79 (v481 : IVec S16 32) : Prop :=
  (∀ a x, ((![v481] : Fin 1 → IVec S16 32) a x).toNat < S3264.size a) ∧
  (∀ a x, ((![v481] : Fin 1 → IVec S16 32) a x).toNat < S3264.size a)
theorem k0_idx106_inb : ∀ (v481 : IVec S16 32) (k0_hw79 : k0_chk79 v481), ∀ a x, ((![v481] : Fin 1 → IVec S16 32) a x).toNat < S3264.size a := fun v481 k0_hw79 => k0_hw79.1
theorem k0_idx107_inb : ∀ (v481 : IVec S16 32) (k0_hw79 : k0_chk79 v481), ∀ a x, ((![v481] : Fin 1 → IVec S16 32) a x).toNat < S3264.size a := fun v481 k0_hw79 => k0_hw79.2

def k0_chk80 (v491 : IVec S16 32) : Prop :=
  (∀ a x, ((![v491] : Fin 1 → IVec S16 32) a x).toNat < S3264.size a) ∧
  (∀ a x, ((![v491] : Fin 1 → IVec S16 32) a x).toNat < S3264.size a)
theorem k0_idx108_inb : ∀ (v491 : IVec S16 32) (k0_hw80 : k0_chk80 v491), ∀ a x, ((![v491] : Fin 1 → IVec S16 32) a x).toNat < S3264.size a := fun v491 k0_hw80 => k0_hw80.1
theorem k0_idx109_inb : ∀ (v491 : IVec S16 32) (k0_hw80 : k0_chk80 v491), ∀ a x, ((![v491] : Fin 1 → IVec S16 32) a x).toNat < S3264.size a := fun v491 k0_hw80 => k0_hw80.2

def k0_chk81 (v501 : IVec S16 32) : Prop :=
  (∀ a x, ((![v501] : Fin 1 → IVec S16 32) a x).toNat < S3264.size a) ∧
  (∀ a x, ((![v501] : Fin 1 → IVec S16 32) a x).toNat < S3264.size a)
theorem k0_idx110_inb : ∀ (v501 : IVec S16 32) (k0_hw81 : k0_chk81 v501), ∀ a x, ((![v501] : Fin 1 → IVec S16 32) a x).toNat < S3264.size a := fun v501 k0_hw81 => k0_hw81.1
theorem k0_idx111_inb : ∀ (v501 : IVec S16 32) (k0_hw81 : k0_chk81 v501), ∀ a x, ((![v501] : Fin 1 → IVec S16 32) a x).toNat < S3264.size a := fun v501 k0_hw81 => k0_hw81.2

def k0_chk82 (v511 : IVec S16 32) : Prop :=
  (∀ a x, ((![v511] : Fin 1 → IVec S16 32) a x).toNat < S3264.size a) ∧
  (∀ a x, ((![v511] : Fin 1 → IVec S16 32) a x).toNat < S3264.size a)
theorem k0_idx112_inb : ∀ (v511 : IVec S16 32) (k0_hw82 : k0_chk82 v511), ∀ a x, ((![v511] : Fin 1 → IVec S16 32) a x).toNat < S3264.size a := fun v511 k0_hw82 => k0_hw82.1
theorem k0_idx113_inb : ∀ (v511 : IVec S16 32) (k0_hw82 : k0_chk82 v511), ∀ a x, ((![v511] : Fin 1 → IVec S16 32) a x).toNat < S3264.size a := fun v511 k0_hw82 => k0_hw82.2

def k0_chk83 (v521 : IVec S16 32) : Prop :=
  (∀ a x, ((![v521] : Fin 1 → IVec S16 32) a x).toNat < S3264.size a) ∧
  (∀ a x, ((![v521] : Fin 1 → IVec S16 32) a x).toNat < S3264.size a)
theorem k0_idx114_inb : ∀ (v521 : IVec S16 32) (k0_hw83 : k0_chk83 v521), ∀ a x, ((![v521] : Fin 1 → IVec S16 32) a x).toNat < S3264.size a := fun v521 k0_hw83 => k0_hw83.1
theorem k0_idx115_inb : ∀ (v521 : IVec S16 32) (k0_hw83 : k0_chk83 v521), ∀ a x, ((![v521] : Fin 1 → IVec S16 32) a x).toNat < S3264.size a := fun v521 k0_hw83 => k0_hw83.2

def k0_chk84 (v531 : IVec S16 32) : Prop :=
  (∀ a x, ((![v531] : Fin 1 → IVec S16 32) a x).toNat < S3264.size a) ∧
  (∀ a x, ((![v531] : Fin 1 → IVec S16 32) a x).toNat < S3264.size a)
theorem k0_idx116_inb : ∀ (v531 : IVec S16 32) (k0_hw84 : k0_chk84 v531), ∀ a x, ((![v531] : Fin 1 → IVec S16 32) a x).toNat < S3264.size a := fun v531 k0_hw84 => k0_hw84.1
theorem k0_idx117_inb : ∀ (v531 : IVec S16 32) (k0_hw84 : k0_chk84 v531), ∀ a x, ((![v531] : Fin 1 → IVec S16 32) a x).toNat < S3264.size a := fun v531 k0_hw84 => k0_hw84.2

def k0_chk85 (v541 : IVec S16 32) : Prop :=
  (∀ a x, ((![v541] : Fin 1 → IVec S16 32) a x).toNat < S3264.size a) ∧
  (∀ a x, ((![v541] : Fin 1 → IVec S16 32) a x).toNat < S3264.size a)
theorem k0_idx118_inb : ∀ (v541 : IVec S16 32) (k0_hw85 : k0_chk85 v541), ∀ a x, ((![v541] : Fin 1 → IVec S16 32) a x).toNat < S3264.size a := fun v541 k0_hw85 => k0_hw85.1
theorem k0_idx119_inb : ∀ (v541 : IVec S16 32) (k0_hw85 : k0_chk85 v541), ∀ a x, ((![v541] : Fin 1 → IVec S16 32) a x).toNat < S3264.size a := fun v541 k0_hw85 => k0_hw85.2

def k0_chk86 (v551 : IVec S16 32) : Prop :=
  (∀ a x, ((![v551] : Fin 1 → IVec S16 32) a x).toNat < S3264.size a) ∧
  (∀ a x, ((![v551] : Fin 1 → IVec S16 32) a x).toNat < S3264.size a)
theorem k0_idx120_inb : ∀ (v551 : IVec S16 32) (k0_hw86 : k0_chk86 v551), ∀ a x, ((![v551] : Fin 1 → IVec S16 32) a x).toNat < S3264.size a := fun v551 k0_hw86 => k0_hw86.1
theorem k0_idx121_inb : ∀ (v551 : IVec S16 32) (k0_hw86 : k0_chk86 v551), ∀ a x, ((![v551] : Fin 1 → IVec S16 32) a x).toNat < S3264.size a := fun v551 k0_hw86 => k0_hw86.2

def k0_chk87 (v558 : IVec S16 32) : Prop :=
  (∀ a x, ((![v558] : Fin 1 → IVec S16 32) a x).toNat < S3264.size a) ∧
  (∀ a x, ((![v558] : Fin 1 → IVec S16 32) a x).toNat < S3264.size a)
theorem k0_idx122_inb : ∀ (v558 : IVec S16 32) (k0_hw87 : k0_chk87 v558), ∀ a x, ((![v558] : Fin 1 → IVec S16 32) a x).toNat < S3264.size a := fun v558 k0_hw87 => k0_hw87.1
theorem k0_idx123_inb : ∀ (v558 : IVec S16 32) (k0_hw87 : k0_chk87 v558), ∀ a x, ((![v558] : Fin 1 → IVec S16 32) a x).toNat < S3264.size a := fun v558 k0_hw87 => k0_hw87.2

def k0_chk88 (v568 : IVec S16 32) : Prop :=
  (∀ a x, ((![v568] : Fin 1 → IVec S16 32) a x).toNat < S3264.size a) ∧
  (∀ a x, ((![v568] : Fin 1 → IVec S16 32) a x).toNat < S3264.size a)
theorem k0_idx124_inb : ∀ (v568 : IVec S16 32) (k0_hw88 : k0_chk88 v568), ∀ a x, ((![v568] : Fin 1 → IVec S16 32) a x).toNat < S3264.size a := fun v568 k0_hw88 => k0_hw88.1
theorem k0_idx125_inb : ∀ (v568 : IVec S16 32) (k0_hw88 : k0_chk88 v568), ∀ a x, ((![v568] : Fin 1 → IVec S16 32) a x).toNat < S3264.size a := fun v568 k0_hw88 => k0_hw88.2

def k0_chk89 (v578 : IVec S16 32) : Prop :=
  (∀ a x, ((![v578] : Fin 1 → IVec S16 32) a x).toNat < S3264.size a) ∧
  (∀ a x, ((![v578] : Fin 1 → IVec S16 32) a x).toNat < S3264.size a)
theorem k0_idx126_inb : ∀ (v578 : IVec S16 32) (k0_hw89 : k0_chk89 v578), ∀ a x, ((![v578] : Fin 1 → IVec S16 32) a x).toNat < S3264.size a := fun v578 k0_hw89 => k0_hw89.1
theorem k0_idx127_inb : ∀ (v578 : IVec S16 32) (k0_hw89 : k0_chk89 v578), ∀ a x, ((![v578] : Fin 1 → IVec S16 32) a x).toNat < S3264.size a := fun v578 k0_hw89 => k0_hw89.2

def k0_chk90 (v588 : IVec S16 32) : Prop :=
  (∀ a x, ((![v588] : Fin 1 → IVec S16 32) a x).toNat < S3264.size a) ∧
  (∀ a x, ((![v588] : Fin 1 → IVec S16 32) a x).toNat < S3264.size a)
theorem k0_idx128_inb : ∀ (v588 : IVec S16 32) (k0_hw90 : k0_chk90 v588), ∀ a x, ((![v588] : Fin 1 → IVec S16 32) a x).toNat < S3264.size a := fun v588 k0_hw90 => k0_hw90.1
theorem k0_idx129_inb : ∀ (v588 : IVec S16 32) (k0_hw90 : k0_chk90 v588), ∀ a x, ((![v588] : Fin 1 → IVec S16 32) a x).toNat < S3264.size a := fun v588 k0_hw90 => k0_hw90.2

def k0_chk91 (v598 : IVec S16 32) : Prop :=
  (∀ a x, ((![v598] : Fin 1 → IVec S16 32) a x).toNat < S3264.size a) ∧
  (∀ a x, ((![v598] : Fin 1 → IVec S16 32) a x).toNat < S3264.size a)
theorem k0_idx130_inb : ∀ (v598 : IVec S16 32) (k0_hw91 : k0_chk91 v598), ∀ a x, ((![v598] : Fin 1 → IVec S16 32) a x).toNat < S3264.size a := fun v598 k0_hw91 => k0_hw91.1
theorem k0_idx131_inb : ∀ (v598 : IVec S16 32) (k0_hw91 : k0_chk91 v598), ∀ a x, ((![v598] : Fin 1 → IVec S16 32) a x).toNat < S3264.size a := fun v598 k0_hw91 => k0_hw91.2

def k0_chk92 (v608 : IVec S16 32) : Prop :=
  (∀ a x, ((![v608] : Fin 1 → IVec S16 32) a x).toNat < S3264.size a) ∧
  (∀ a x, ((![v608] : Fin 1 → IVec S16 32) a x).toNat < S3264.size a)
theorem k0_idx132_inb : ∀ (v608 : IVec S16 32) (k0_hw92 : k0_chk92 v608), ∀ a x, ((![v608] : Fin 1 → IVec S16 32) a x).toNat < S3264.size a := fun v608 k0_hw92 => k0_hw92.1
theorem k0_idx133_inb : ∀ (v608 : IVec S16 32) (k0_hw92 : k0_chk92 v608), ∀ a x, ((![v608] : Fin 1 → IVec S16 32) a x).toNat < S3264.size a := fun v608 k0_hw92 => k0_hw92.2

def k0_chk93 (v618 : IVec S16 32) : Prop :=
  (∀ a x, ((![v618] : Fin 1 → IVec S16 32) a x).toNat < S3264.size a) ∧
  (∀ a x, ((![v618] : Fin 1 → IVec S16 32) a x).toNat < S3264.size a)
theorem k0_idx134_inb : ∀ (v618 : IVec S16 32) (k0_hw93 : k0_chk93 v618), ∀ a x, ((![v618] : Fin 1 → IVec S16 32) a x).toNat < S3264.size a := fun v618 k0_hw93 => k0_hw93.1
theorem k0_idx135_inb : ∀ (v618 : IVec S16 32) (k0_hw93 : k0_chk93 v618), ∀ a x, ((![v618] : Fin 1 → IVec S16 32) a x).toNat < S3264.size a := fun v618 k0_hw93 => k0_hw93.2

def k0_chk94 (v628 : IVec S16 32) : Prop :=
  (∀ a x, ((![v628] : Fin 1 → IVec S16 32) a x).toNat < S3264.size a) ∧
  (∀ a x, ((![v628] : Fin 1 → IVec S16 32) a x).toNat < S3264.size a)
theorem k0_idx136_inb : ∀ (v628 : IVec S16 32) (k0_hw94 : k0_chk94 v628), ∀ a x, ((![v628] : Fin 1 → IVec S16 32) a x).toNat < S3264.size a := fun v628 k0_hw94 => k0_hw94.1
theorem k0_idx137_inb : ∀ (v628 : IVec S16 32) (k0_hw94 : k0_chk94 v628), ∀ a x, ((![v628] : Fin 1 → IVec S16 32) a x).toNat < S3264.size a := fun v628 k0_hw94 => k0_hw94.2

def k0_chk95 (v638 : IVec S16 32) : Prop :=
  (∀ a x, ((![v638] : Fin 1 → IVec S16 32) a x).toNat < S3264.size a) ∧
  (∀ a x, ((![v638] : Fin 1 → IVec S16 32) a x).toNat < S3264.size a)
theorem k0_idx138_inb : ∀ (v638 : IVec S16 32) (k0_hw95 : k0_chk95 v638), ∀ a x, ((![v638] : Fin 1 → IVec S16 32) a x).toNat < S3264.size a := fun v638 k0_hw95 => k0_hw95.1
theorem k0_idx139_inb : ∀ (v638 : IVec S16 32) (k0_hw95 : k0_chk95 v638), ∀ a x, ((![v638] : Fin 1 → IVec S16 32) a x).toNat < S3264.size a := fun v638 k0_hw95 => k0_hw95.2

def k0_chk96 (v648 : IVec S16 32) : Prop :=
  (∀ a x, ((![v648] : Fin 1 → IVec S16 32) a x).toNat < S3264.size a) ∧
  (∀ a x, ((![v648] : Fin 1 → IVec S16 32) a x).toNat < S3264.size a)
theorem k0_idx140_inb : ∀ (v648 : IVec S16 32) (k0_hw96 : k0_chk96 v648), ∀ a x, ((![v648] : Fin 1 → IVec S16 32) a x).toNat < S3264.size a := fun v648 k0_hw96 => k0_hw96.1
theorem k0_idx141_inb : ∀ (v648 : IVec S16 32) (k0_hw96 : k0_chk96 v648), ∀ a x, ((![v648] : Fin 1 → IVec S16 32) a x).toNat < S3264.size a := fun v648 k0_hw96 => k0_hw96.2

def k0_chk97 (v658 : IVec S16 32) : Prop :=
  (∀ a x, ((![v658] : Fin 1 → IVec S16 32) a x).toNat < S3264.size a) ∧
  (∀ a x, ((![v658] : Fin 1 → IVec S16 32) a x).toNat < S3264.size a)
theorem k0_idx142_inb : ∀ (v658 : IVec S16 32) (k0_hw97 : k0_chk97 v658), ∀ a x, ((![v658] : Fin 1 → IVec S16 32) a x).toNat < S3264.size a := fun v658 k0_hw97 => k0_hw97.1
theorem k0_idx143_inb : ∀ (v658 : IVec S16 32) (k0_hw97 : k0_chk97 v658), ∀ a x, ((![v658] : Fin 1 → IVec S16 32) a x).toNat < S3264.size a := fun v658 k0_hw97 => k0_hw97.2

def k0_chk98 (v668 : IVec S16 32) : Prop :=
  (∀ a x, ((![v668] : Fin 1 → IVec S16 32) a x).toNat < S3264.size a) ∧
  (∀ a x, ((![v668] : Fin 1 → IVec S16 32) a x).toNat < S3264.size a)
theorem k0_idx144_inb : ∀ (v668 : IVec S16 32) (k0_hw98 : k0_chk98 v668), ∀ a x, ((![v668] : Fin 1 → IVec S16 32) a x).toNat < S3264.size a := fun v668 k0_hw98 => k0_hw98.1
theorem k0_idx145_inb : ∀ (v668 : IVec S16 32) (k0_hw98 : k0_chk98 v668), ∀ a x, ((![v668] : Fin 1 → IVec S16 32) a x).toNat < S3264.size a := fun v668 k0_hw98 => k0_hw98.2

def k0_chk99 (v678 : IVec S16 32) : Prop :=
  (∀ a x, ((![v678] : Fin 1 → IVec S16 32) a x).toNat < S3264.size a) ∧
  (∀ a x, ((![v678] : Fin 1 → IVec S16 32) a x).toNat < S3264.size a)
theorem k0_idx146_inb : ∀ (v678 : IVec S16 32) (k0_hw99 : k0_chk99 v678), ∀ a x, ((![v678] : Fin 1 → IVec S16 32) a x).toNat < S3264.size a := fun v678 k0_hw99 => k0_hw99.1
theorem k0_idx147_inb : ∀ (v678 : IVec S16 32) (k0_hw99 : k0_chk99 v678), ∀ a x, ((![v678] : Fin 1 → IVec S16 32) a x).toNat < S3264.size a := fun v678 k0_hw99 => k0_hw99.2

def k0_chk100 (v688 : IVec S16 32) : Prop :=
  (∀ a x, ((![v688] : Fin 1 → IVec S16 32) a x).toNat < S3264.size a) ∧
  (∀ a x, ((![v688] : Fin 1 → IVec S16 32) a x).toNat < S3264.size a)
theorem k0_idx148_inb : ∀ (v688 : IVec S16 32) (k0_hw100 : k0_chk100 v688), ∀ a x, ((![v688] : Fin 1 → IVec S16 32) a x).toNat < S3264.size a := fun v688 k0_hw100 => k0_hw100.1
theorem k0_idx149_inb : ∀ (v688 : IVec S16 32) (k0_hw100 : k0_chk100 v688), ∀ a x, ((![v688] : Fin 1 → IVec S16 32) a x).toNat < S3264.size a := fun v688 k0_hw100 => k0_hw100.2

def k0_chk101 (v698 : IVec S16 32) : Prop :=
  (∀ a x, ((![v698] : Fin 1 → IVec S16 32) a x).toNat < S3264.size a) ∧
  (∀ a x, ((![v698] : Fin 1 → IVec S16 32) a x).toNat < S3264.size a)
theorem k0_idx150_inb : ∀ (v698 : IVec S16 32) (k0_hw101 : k0_chk101 v698), ∀ a x, ((![v698] : Fin 1 → IVec S16 32) a x).toNat < S3264.size a := fun v698 k0_hw101 => k0_hw101.1
theorem k0_idx151_inb : ∀ (v698 : IVec S16 32) (k0_hw101 : k0_chk101 v698), ∀ a x, ((![v698] : Fin 1 → IVec S16 32) a x).toNat < S3264.size a := fun v698 k0_hw101 => k0_hw101.2

def k0_chk102 (v708 : IVec S16 32) : Prop :=
  (∀ a x, ((![v708] : Fin 1 → IVec S16 32) a x).toNat < S3264.size a) ∧
  (∀ a x, ((![v708] : Fin 1 → IVec S16 32) a x).toNat < S3264.size a)
theorem k0_idx152_inb : ∀ (v708 : IVec S16 32) (k0_hw102 : k0_chk102 v708), ∀ a x, ((![v708] : Fin 1 → IVec S16 32) a x).toNat < S3264.size a := fun v708 k0_hw102 => k0_hw102.1
theorem k0_idx153_inb : ∀ (v708 : IVec S16 32) (k0_hw102 : k0_chk102 v708), ∀ a x, ((![v708] : Fin 1 → IVec S16 32) a x).toNat < S3264.size a := fun v708 k0_hw102 => k0_hw102.2
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r2 : BitVec 32 := 0#32
  ![v1.toNat, 0]
abbrev grid1 : Pipeline.Grid := ⟨1, ![14], ![false]⟩

def cc1_transform_0 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x51 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x51 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x51 : Shape := ⟨2, ![16384, 51]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x51, .f32⟩
  | .hbm, ⟨1, _⟩ => ⟨S16384x51, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x51, .f32⟩
  | .hbm, ⟨9, _⟩ => ⟨S16384x51, .f32⟩
  | .hbm, ⟨10, _⟩ => ⟨S16384x51, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S16384x51, .f32⟩
  | .hbm, ⟨16, _⟩ => ⟨S16384x51, .f32⟩
  | .hbm, ⟨17, _⟩ => ⟨S16384x51, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16384x51, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== Proof.Math.lean ====
module

public import Idealize.ShloMosaic.PureOps.Ideal
public import Idealize.ShloMosaic.PureOps.Ideal.Laws

@[expose] public section

noncomputable section

namespace Cert.Proof.Math

open Idealize.ShloMosaic

/-- The largest entry of a row, by the fold from minus infinity. -/
def rowMax (l : Fin 51 → EReal) : EReal := Finset.univ.fold max ⊥ l

/-- The loss of one row in the kernel's form: the log-sum-exp times the sum of the targets, less the dot product. -/
def rowLoss (l t : Fin 51 → EReal) : EReal :=
  (Ideal.log (∑ k, Ideal.exp (l k - rowMax l)) + rowMax l) * (∑ k, t k) - ∑ k, t k * l k

/-- The loss of one row in the reference's form: minus the sum of targets times log-probabilities. -/
def refLoss (l t : Fin 51 → EReal) : EReal :=
  -(∑ k, t k * ((l k - rowMax l) - Ideal.log (∑ j, Ideal.exp (l j - rowMax l))))

/-- A sum of reals is the same sum taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest entry of a row of reals is a real. -/
theorem rowMax_coe (a : Fin 51 → ℝ) : ∃ r : ℝ, rowMax (fun k => (a k : EReal)) = r := by
  unfold rowMax
  have h : ∀ s : Finset (Fin 51), s.Nonempty → ∃ r : ℝ, s.fold max ⊥ (fun k => (a k : EReal)) = r := by
    intro s hs
    induction hs using Finset.Nonempty.cons_induction with
    | singleton b => exact ⟨a b, by simp⟩
    | cons b s hb _ ih =>
      obtain ⟨r, hr⟩ := ih
      refine ⟨max (a b) r, ?_⟩
      rw [Finset.fold_cons, hr]
      rcases le_total (a b) r with h | h
      · rw [max_eq_right h, max_eq_right (EReal.coe_le_coe_iff.2 h)]
      · rw [max_eq_left h, max_eq_left (EReal.coe_le_coe_iff.2 h)]
  exact h _ Finset.univ_nonempty

/-- On rows of reals the two forms of the loss agree: what the kernel sums is what the reference sums. -/
theorem rowLoss_eq (l t : Fin 51 → EReal) (hl : ∀ k, ∃ r : ℝ, l k = r) (ht : ∀ k, ∃ r : ℝ, t k = r) :
    rowLoss l t = refLoss l t := by
  choose a ha using hl
  choose b hb using ht
  obtain rfl : l = fun k => (a k : EReal) := funext ha
  obtain rfl : t = fun k => (b k : EReal) := funext hb
  obtain ⟨M, hM⟩ := rowMax_coe a
  unfold rowLoss refLoss
  rw [hM]
  have hs : ∑ k, Ideal.exp ((a k : EReal) - M) = ((∑ k, Real.exp (a k - M) : ℝ) : EReal) := by
    rw [coe_sum]
    exact Finset.sum_congr rfl fun k _ => by rw [← EReal.coe_sub, Ideal.exp_coe]
  have hpos : 0 < ∑ k : Fin 51, Real.exp (a k - M) :=
    Finset.sum_pos (fun k _ => Real.exp_pos _) Finset.univ_nonempty
  have hlog : Ideal.log (((∑ k, Real.exp (a k - M) : ℝ)) : EReal) = ((Real.log (∑ k, Real.exp (a k - M)) : ℝ) : EReal) := by
    show (if _ ≤ (0 : ℝ) then _ else _) = _
    rw [if_neg (not_le.2 hpos)]
  rw [hs, hlog]
  generalize Real.log (∑ k, Real.exp (a k - M)) = L
  have h1 : ∑ k, (b k : EReal) * (a k : EReal) = ((∑ k, b k * a k : ℝ) : EReal) := by
    rw [coe_sum]; exact Finset.sum_congr rfl fun k _ => (EReal.coe_mul _ _).symm
  have h2 : ∑ k, (b k : EReal) * (((a k : EReal) - M) - L) = ((∑ k, b k * ((a k - M) - L) : ℝ) : EReal) := by
    rw [coe_sum]; exact Finset.sum_congr rfl fun k _ => by rw [EReal.coe_mul, EReal.coe_sub, EReal.coe_sub]
  rw [h1, h2, ← coe_sum, ← EReal.coe_add, ← EReal.coe_mul, ← EReal.coe_sub, ← EReal.coe_neg]
  congr 1
  rw [Finset.mul_sum, ← Finset.sum_neg_distrib, ← Finset.sum_sub_distrib]
  exact Finset.sum_congr rfl fun k _ => by ring

/-- The pattern of minus infinity is the least extended real. -/
theorem ofBits_neg_inf : Ideal.ofBits .f32 0xFF800000#32 = ⊥ := by
  simp [Ideal.ofBits, Ideal.ieee]

/-- The pattern of plus infinity is the greatest extended real. -/
theorem ofBits_inf : Ideal.ofBits .f32 0x7F800000#32 = ⊤ := by
  simp [Ideal.ofBits, Ideal.ieee]

/-- An extended real whose absolute value lies below plus infinity is a real. -/
theorem real_of_abs_lt (x : EReal) (h : (max x (-x)) < ⊤) : ∃ r : ℝ, x = r := by
  induction x using EReal.rec with
  | bot => simp at h
  | top => simp at h
  | coe r => exact ⟨r, rfl⟩

end Cert.Proof.Math

end
-- ==== Proof.RefValue.lean ====
module

public import proofs.«01_k».proof.Defs
public import proofs.«01_k».proof.Proof.Math
public import proofs.«01_k».proof.Proof.Gen.Pre_finite
public import proofs.«01_k».proof.Proof.Gen.ReferenceIdeal
public import proofs.«01_k».proof.Proof.Gen.ReferenceIdeal.Run
public import Idealize.ShloMosaic.Lib.Pointwise
public import Idealize.ShloMosaic.Lib.ReduceAll

@[expose] public section

set_option maxRecDepth 16384

noncomputable section

namespace Cert.Proof

open Idealize.ShloMosaic Idealize.SL.Sem Cert.Proof.Math

/-- A two-axis array of the batch's shape. -/
abbrev Big : Shape := ⟨2, ![16384, 51]⟩

/-- Row `r` of an array of the batch's shape. -/
def row (a : Big.Idx → EReal) (r : Fin 16384) : Fin 51 → EReal := fun k => a (ix2 r k)

/-- The mean of the rows' losses: their sum over the batch size. -/
def meanLoss (a b : Big.Idx → EReal) : EReal :=
  Ideal.div (∑ r : Fin 16384, rowLoss (row a r) (row b r)) (Ideal.ofBits .f32 0x46800000#32)

section
open Cert.Pre_finite Cert.Pre_finite.Gen

/-- The precondition says that every entry of both arguments is a real. -/
theorem finite_of_pre (a b : Big.Idx → EReal) (h : Cert.Pre_finite.fn (F := Ideal) a b = fun _ => 1#1) :
    (∀ i, ∃ r : ℝ, a i = r) ∧ ∀ i, ∃ r : ℝ, b i = r := by
  have h0 := congrFun h ix0
  unfold Cert.Pre_finite.fn at h0
  dsimp only at h0
  have h1 := IntOp.andi_eq_one.1 h0
  haveI : Subsingleton (⟨0, ![]⟩ : Shape).Idx := ⟨fun x y => funext fun d => d.elim0⟩
  have key : ∀ x : Big.Idx → EReal, ∀ i, cmpf (F := Ideal) (φ := .f32) (s := S16384x51) .olt (Host.absf (φ := .f32) x) (broadcastInDim S16384x51 ![] Facts.bcast_S_S16384x51 (constant S_ .f32 0x7F800000#32)) i = 1#1 → ∃ r : ℝ, x i = r := by
    intro x i hx
    apply real_of_abs_lt
    have : max (x i) (-(x i)) < Ideal.ofBits .f32 0x7F800000#32 := by
      have h2 : BitVec.ofBool (decide (max (x i) (-(x i)) < Ideal.ofBits .f32 0x7F800000#32)) = 1#1 := hx
      by_contra hc
      rw [decide_eq_false hc] at h2
      exact absurd h2 (by decide)
    rwa [ofBits_inf] at this
  exact ⟨fun i => key a i (Host.reduce_andi_all _ _ _ _ _ h1.1 i), fun i => key b i (Host.reduce_andi_all _ _ _ _ _ h1.2 i)⟩

end

section
open Cert.ReferenceIdeal Cert.ReferenceIdeal.Gen

/-- The reference's maximum over a row is the row's largest entry. -/
theorem fold_row (a : Big.Idx → EReal) (x : Fin 16384) :
    Finset.fold max (Ideal.ofBits .f32 0xFF800000#32) a (Finset.univ.filter fun i => reducesTo_S16384x51_S16384_d1.drop i = ix1 x)
      = rowMax (row a x) := by
  have h : Host.reduce (FloatOps.maximumf (F := Ideal) (φ := .f32)) (a : FVec Ideal S16384x51 .f32) (constant S_ .f32 0xFF800000#32)
      reducesTo_S16384x51_S16384_d1 h_S_ (ix1 x) = rowMax (row a x) := by
    pointwise
    rw [ofBits_neg_inf]
    rfl
  rw [Host.reduce_eq_fold] at h
  exact h

/-- The reference runs; under finite arguments its result is the mean loss, and its arguments end unchanged. -/
theorem ref_run (m : (ℓ : Loc nD τ sig) → Buf (Elt Ideal) ℓ) (ρ : Dev nD → PrngReg)
    (ha : ∀ (c : Dev nD) i, ∃ r : ℝ, (m ((c.tc : Thread nD τ).loc main_arg0) : Big.Idx → EReal) i = (r : EReal))
    (hb : ∀ (c : Dev nD) i, ∃ r : ℝ, (m ((c.tc : Thread nD τ).loc main_arg1) : Big.Idx → EReal) i = (r : EReal)) :
    θ_run defs (onTc (τ := τ) (main (F := Ideal))) ⟨m, fun _ => 0, ρ⟩ fun r => ∀ c : Dev nD,
      r.2.mem ((c.tc : Thread nD τ).loc main_v5)
          = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ReferenceIdeal.Value.run (F := Ideal) m ρ)
  have ha := ha c
  have hb := hb c
  revert ha hb
  generalize (m ((c.tc : Thread nD τ).loc main_arg0)) = a
  generalize (m ((c.tc : Thread nD τ).loc main_arg1)) = b
  intro ha hb
  funext j
  pointwise
  unfold meanLoss
  refine congrArg (fun z => Ideal.div z (Ideal.ofBits .f32 0x46800000#32)) ?_
  refine Finset.sum_congr rfl ?_
  intro x _
  rw [rowLoss_eq (row a x) (row b x) (fun k => ha _) (fun k => hb _)]
  have hf := fold_row a x
  unfold refLoss
  rw [← hf, ofBits_neg_inf, max_eq_right bot_le]
  rfl

end

end Cert.Proof

end
-- ==== Proof.Base.lean ====
/-
  What every module of the certificate shares: the program as the launch theorem sees it, the resource algebra (the
  handshakes' rounds, the pipeline's rounds, the transfers' counters), the buffers by name and the coordinates of a
  vector subcore.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The SparseCore protocol's semaphores are distinct, and none of a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- and the pipeline's. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The buffers and the coordinates -/

abbrev aV : Memref sig .scVector .hbm S104448 .f32 := Memref.whole main_v1_scv
abbrev bV : Memref sig .scVector .hbm S104448 .f32 := Memref.whole main_v3_scv
abbrev oV : Memref sig .scVector .hbm S32x16 .f32 := Memref.whole main_v4_scv
abbrev sA : Memref sig .scVector .vmem S3264 .f32 := Memref.whole cc0_scratch0
abbrev sB : Memref sig .scVector .vmem S3264 .f32 := Memref.whole cc0_scratch1
abbrev sO : Memref sig .scVector .vmem S16 .f32 := Memref.whole cc0_scratch2

/-- The SparseCore and the vector subcore that point `L` of the call's grid is. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.Sc

end
-- ==== Proof.Block.lean ====
/-
  The TensorCore call: one point's body, run on its staging buffers. At the first point it leaves the block's payload over
  zero in the one cell it accumulates into, at a later point the payload over what the cell held.
-/
module

public import proofs.«01_k».proof.Proof.Base
public import Idealize.ShloMosaic.Lib.Pipeline.FrameBody
public import Idealize.ShloMosaic.Lib.Pipeline.FrameSuffix
public import Idealize.ShloMosaic.Lib.Pipeline.RegionArraysS
public import Idealize.ShloMosaic.Lib.Ring
public import Idealize.ShloMosaic.Lib.WordCmp
public import Idealize.ShloMosaic.Lib.Pipeline.Value

@[expose] public section

set_option maxRecDepth 16384

noncomputable section

namespace Cert.Proof.Sc

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- What the body asks of its point before it clears the cell: that it is the first. -/
abbrev First (i : grid1.Coords) : Prop :=
  (Scalar.cmpi .ne (Scalar.extui (Scalar.cmpi .eq (BitVec.ofNat 32 (i 0).val) 0#32)) 0#32) = 1#1

/-- The first point is point 0. -/
theorem first_iff (t : Fin grid1.N) : First (grid1.coords t) ↔ t.val = 0 := by
  revert t; decide +kernel

theorem zz : (![0, 0] : Fin 2 → Nat) = fun _ => 0 := funext fun a => by fin_cases a <;> rfl

/-- The whole of a block read is the block. -/
theorem ld_block (x : Vec F S1024x51 .f32) :
    View.ld (Val := Elt F) (e' := .f32) x (Rect.unit (s := S1024x51) ![0, 0] S1024x51.size inb_S1024x51_S1024x51_0_0) = x :=
  View.ld_unit_zero (Val := Elt F) (e := .f32) (S := S1024x51) zz _ x

set_option maxHeartbeats 1000000 in
/-- The first point's body leaves the block's payload over zero. -/
theorem body_first (c : Dev nD) (i : grid1.Coords) (a1 : Memref sig .tc .vmem S1024x51 .f32) (h1 : a1.IsWhole)
    (a2 : Memref sig .tc .vmem S1024x51 .f32) (h2 : a2.IsWhole) (a3 : Memref sig .tc .smem S1x1 .f32) (h3 : a3.IsWhole)
    (hc : First i) (x y : Vec F S1024x51 .f32) (E : Set ℕ) (Q : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (fun _ => k1_pay1 x y (Scalar.ofBits .f32 0x00000000#32))) -∗ Q ⟨⟩))
      ⊢ wp frame (wpE (defs₀ (F := F)) 𝒱₀ c none) E (cc1__tc_block_body i a1 h1 a2 h2 a3 h3) Q := by
  simp only [cc1__tc_block_body_eq_skeleton]; unfold cc1__tc_block_body_skel
  unfold owns
  iintro ⟨⟨%f0, %hf0, H0⟩, ⟨%f1, %hf1, H1⟩, ⟨%d2, %f2, -, H2⟩, Hk⟩
  obtain rfl := h1.eq_unread hf0; obtain rfl := h2.eq_unread hf1
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  iexists _; isplitr; swap; · iexact H2
  ipureintro
  rw [View.read_writes_eq_canon _ _ _ (fun z => View.cover_of_tiledL _ S1x1.size (by sl_kernel_rfl) z)]
  sl_unfold_words
  rw [View.canon_cons_unit_zero (S := S1x1) zz]
  funext j
  simp only [View.readAt_eq_ld, h1.read_unread, h2.read_unread]
  rw [ld_block, ld_block]

set_option maxHeartbeats 1000000 in
/-- A later point's body leaves the block's payload over what the cell held. -/
theorem body_next (c : Dev nD) (i : grid1.Coords) (a1 : Memref sig .tc .vmem S1024x51 .f32) (h1 : a1.IsWhole)
    (a2 : Memref sig .tc .vmem S1024x51 .f32) (h2 : a2.IsWhole) (a3 : Memref sig .tc .smem S1x1 .f32) (h3 : a3.IsWhole)
    (hc : ¬ First i) (x y : Vec F S1024x51 .f32) (z : F .f32) (E : Set ℕ) (Q : PUnit → sProp 𝕄) :
    iprop(owns (c : Thread nD τ) a1 fullShare x ∗ owns (c : Thread nD τ) a2 fullShare y ∗ owns (c : Thread nD τ) a3 fullShare (fun _ => z)
        ∗ (iprop(owns (c : Thread nD τ) a1 fullShare x ∗ owns (c : Thread nD τ) a2 fullShare y
            ∗ owns (c : Thread nD τ) a3 fullShare (fun _ => k1_pay1 x y z)) -∗ Q ⟨⟩))
      ⊢ wp frame (wpE (defs₀ (F := F)) 𝒱₀ c none) E (cc1__tc_block_body i a1 h1 a2 h2 a3 h3) Q := by
  simp only [cc1__tc_block_body_eq_skeleton]; unfold cc1__tc_block_body_skel
  unfold owns
  iintro ⟨⟨%f0, %hf0, H0⟩, ⟨%f1, %hf1, H1⟩, ⟨%f2, %hf2, H2⟩, Hk⟩
  obtain rfl := h1.eq_unread hf0; obtain rfl := h2.eq_unread hf1; obtain rfl := h3.eq_unread hf2
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  iexists _; isplitr; swap; · iexact H2
  ipureintro
  rw [View.read_writes_eq_canon _ _ _ (fun z => View.cover_of_tiledL _ S1x1.size (by sl_kernel_rfl) z)]
  sl_unfold_words
  rw [View.canon_unit_zero zz]
  funext j
  simp only [View.readAt_eq_ld, h1.read_unread, h2.read_unread, h3.read_unread]
  rw [ld_block, ld_block]

/-! ## The pipeline's proof data -/

/-- A window's block at a point, read off its array as the call finds it. -/
def blk (W : Dev nD → Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (W c (Proc.devRef .tc (Pipeline.arrRef spec1 w)))

/-- What the cell holds after a point: the payload of the point's two blocks over what it held before, at the first over
    zero. -/
def tcAcc (W : Dev nD → Valuation τ sig (Elt F)) (c : Dev nD) : (n : ℕ) → n < cfg1.N → F .f32
  | 0, h => k1_pay1 (blk W c 0 ⟨0, h⟩) (blk W c 1 ⟨0, h⟩) (Scalar.ofBits .f32 0x00000000#32)
  | n + 1, h => k1_pay1 (blk W c 0 ⟨n + 1, h⟩) (blk W c 1 ⟨n + 1, h⟩) (tcAcc W c n (Nat.lt_of_succ_lt h))

theorem tcAcc_first (W : Dev nD → Valuation τ sig (Elt F)) (c : Dev nD) (t : Fin cfg1.N) (h : t.val = 0) :
    tcAcc W c t.val t.isLt = k1_pay1 (blk W c 0 t) (blk W c 1 t) (Scalar.ofBits .f32 0x00000000#32) := by
  obtain ⟨n, hn⟩ := t
  cases n with
  | zero => rfl
  | succ n => exact absurd h (Nat.succ_ne_zero n)

theorem tcAcc_next (W : Dev nD → Valuation τ sig (Elt F)) (c : Dev nD) (t : Fin cfg1.N) (h : t.val ≠ 0) :
    tcAcc W c t.val t.isLt
      = k1_pay1 (blk W c 0 t) (blk W c 1 t) (tcAcc W c (t.val - 1) (Nat.lt_of_le_of_lt (Nat.sub_le _ _) t.isLt)) := by
  obtain ⟨n, hn⟩ := t
  cases n with
  | zero => exact absurd rfl h
  | succ n => rfl

/-- The arrays as the call finds them, the two inputs' blocks left as they are, the cell at its running value; the core
    owes nothing. -/
def dats (W : Dev nD → Valuation τ sig (Elt F)) (_ : Fin 1) (c : Dev nD) : Dat τ (Elt F) (HIx 1) ℕ UU ℕ cfg1 c where
  A w := W c (Proc.devRef .tc (Pipeline.arrRef spec1 w))
  after w t := match w with
    | ⟨0, _⟩ => blk W c 0 t
    | ⟨1, _⟩ => blk W c 1 t
    | ⟨2, _⟩ => fun _ => tcAcc W c t.val t.isLt
  Φ _ := Pipeline.scopedRest spec1 c
  q _ := fullShare
  owed _ := 0

variable (W : Dev nD → Valuation τ sig (Elt F))

theorem dats_A (c : Dev nD) (w : Fin cfg1.W) : (dats W 0 c).A w = W c (Proc.devRef .tc (Pipeline.arrRef spec1 w)) := by
  dsimp only [dats]
theorem after_0 (c : Dev nD) (t : Fin cfg1.N) : (dats W 0 c).after 0 t = blk W c 0 t := by dsimp only [dats]
theorem after_1 (c : Dev nD) (t : Fin cfg1.N) : (dats W 0 c).after 1 t = blk W c 1 t := by dsimp only [dats]
theorem after_2 (c : Dev nD) (t : Fin cfg1.N) : (dats W 0 c).after 2 t = fun _ => tcAcc W c t.val t.isLt := by dsimp only [dats]

/-- At every point the inputs' buffers hold the point's blocks. -/
theorem before_0 (c : Dev nD) (t : Fin cfg1.N) (d) : (dats W 0 c).before 0 t d = blk W c 0 t :=
  ((dats W 0 c).before_in_eq_fetched 0 rfl (fun _ => rfl) (fun _ _ _ => rfl)
    (fun t => by rw [after_0]; unfold Dat.blockOf blk; rw [dats_A]; try rfl) t d).trans
    (by unfold Dat.fetched Dat.blockOf blk; rw [dats_A]; try rfl)
theorem before_1 (c : Dev nD) (t : Fin cfg1.N) (d) : (dats W 0 c).before 1 t d = blk W c 1 t :=
  ((dats W 0 c).before_in_eq_fetched 1 rfl (fun _ => rfl) (fun _ _ _ => rfl)
    (fun t => by rw [after_1]; unfold Dat.blockOf blk; rw [dats_A]; try rfl) t d).trans
    (by unfold Dat.fetched Dat.blockOf blk; rw [dats_A]; try rfl)
/-- At a later point the cell holds what the point before left in it. -/
theorem before_2 (c : Dev nD) (t : Fin cfg1.N) (h : t.val ≠ 0) (d) :
    (dats W 0 c).before 2 t d = fun _ => tcAcc W c (t.val - 1) (Nat.lt_of_le_of_lt (Nat.sub_le _ _) t.isLt) := by
  have hN : t.val < 14 := lt_of_lt_of_eq t.isLt (show cfg1.N = 14 from N_1)
  rw [Dat.before_out_kept _ 2 rfl t h (Bool.eq_false_iff.mpr fun e => by have := (flush1_2 _).mp e; dsimp only at this; omega)
    (fun _ => rfl) (fun _ _ => rfl)]
  dsimp only [dats]

set_option maxHeartbeats 800000 in
/-- The body at any point, from the buffers as the pipeline hands them over to the buffers as the proof data have them. -/
theorem body_point (c : Dev nD) (t : Fin cfg1.N) :
    iprop((dats W 0 c).Φ t.castSucc ∗ (dats W 0 c).owesAt none t.castSucc
        ∗ (∃ d, owns (c : Thread nD τ) (st1_0 t) fullShare ((dats W 0 c).before 0 t d))
        ∗ (∃ d, owns (c : Thread nD τ) (st1_1 t) fullShare ((dats W 0 c).before 1 t d))
        ∗ (∃ d, owns (c : Thread nD τ) (st1_2 t) fullShare ((dats W 0 c).before 2 t d)))
      ⊢ wp frame (wpE (defs₀ (F := F)) 𝒱₀ c none) Set.univ (bodyAt1 t) (fun _ =>
        iprop((dats W 0 c).Φ t.succ ∗ (dats W 0 c).owesAt none t.succ
          ∗ owns (c : Thread nD τ) (st1_0 t) fullShare ((dats W 0 c).after 0 t)
          ∗ owns (c : Thread nD τ) (st1_1 t) fullShare ((dats W 0 c).after 1 t)
          ∗ owns (c : Thread nD τ) (st1_2 t) fullShare ((dats W 0 c).after 2 t))) := by
  unfold bodyAt1
  simp only [before_0, before_1]
  rw [show (dats W 0 c).Φ t.succ = (dats W 0 c).Φ t.castSucc from rfl,
    show (dats W 0 c).owesAt none t.succ = (dats W 0 c).owesAt none t.castSucc from rfl, after_0, after_1, after_2]
  by_cases h : t.val = 0
  · rw [tcAcc_first W c t h]
    iintro ⟨HΦ, Ho, ⟨%d0, H0⟩, ⟨%d1, H1⟩, ⟨%d2, H2⟩⟩
    iapply (body_first c (grid1.coords t) _ _ _ _ _ _ ((first_iff t).mpr h) (blk W c 0 t) (blk W c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [tcAcc_next W c t h]
    simp only [before_2 W c t h]
    iintro ⟨HΦ, Ho, ⟨%d0, H0⟩, ⟨%d1, H1⟩, ⟨%d2, H2⟩⟩
    iapply (body_next c (grid1.coords t) _ _ _ _ _ _ (fun e => h ((first_iff t).mp e)) (blk W c 0 t) (blk W c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem defs₀_tc (t : Fin cfg1.N) : defs₀ (F := F) .tc cfg1.body (cfg1.bodyArgs t (cfg1.slots t)) = bodyAt1 t := rfl

/-- The call's body does at every point what the pipeline's proof data say. -/
theorem obligation (c : Dev nD) : BodyObligation (dats W 0 c) (defs₀ (F := F)) 𝒱₀ none Set.univ := fun t => by
  rw [bigSep_W1, bigSep_W1, defs₀_tc]
  exact triple_restated (body_point W c t) rfl .rfl fun _ => .rfl

end Cert.Proof.Sc

end
-- ==== Proof.Region.lean ====
/-
  The TensorCore call as a step of @main: entered from the TensorCore's arrays held at any contents, left with the arrays as
  the pipeline's proof data say.
-/
module

public import proofs.«01_k».proof.Proof.Block

@[expose] public section

noncomputable section

namespace Cert.Proof.Sc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

/-- The pipeline prefetches no table. -/
abbrev adm : (p : Fin 1) → (pcfgs (F := F) p).Adm := fun q => (cfgs q).toPCfg_adm

/-- The TensorCore's unscoped buffers. -/
abbrev U : Finset (DevRef τ sig) := Pipeline.ucRefs τ sig

variable (W : Dev nD → Valuation τ sig (Elt F))

/-- The proof data as the region takes them. -/
abbrev pdats (p : Fin 1) (c : Dev nD) : Pipeline.Dat τ (Elt F) (HIx 1) ℕ UU ℕ (Pipeline.pin (pcfgs (F := F)) adm p) c :=
  dats W p c

/-- The windows' waits sit at the lowest level, and the core owes nothing above it. -/
theorem levels : Pipeline.LevelCut (pcfgs (F := F)) adm (none : HIx 1) (K (F := F)).L (K (F := F)).lev 0
    (fun _ : Dev nD => 0) fun _ => 0 where
  hι _ _ _ := Finset.mem_univ _
  hιb _ _ _ := le_refl 0
  hD _ _ _ h := absurd h (lt_irrefl 0)

theorem arrs_in₀ : Pipeline.arrRefs (τ := τ) spec1 ⊆ U := Pipeline.arrRefs_sub_ucRefs _ (by decide)
theorem arrs_in : Pipeline.arrRefs (τ := τ) (pcfgs (F := F) 0).spec ⊆ U := arrs_in₀

theorem kitP : Pipeline.PLaunchFacts (nD := nD) (τ := τ) (pcfgs (F := F)) 0 := launch1.toP
theorem loose (c : Dev nD) : Pipeline.BodyObligationLoose (pdats W 0 c) (defs₀ (F := F)) 𝒱₀ (none : HIx 1) Set.univ :=
  (obligation W c).loose
theorem shares (c : Dev nD) (w) : (pdats W 0 c).share w = fullShare := (dats W 0 c).share_full (fun _ => rfl) w
theorem enters (c : Dev nD) :
    iprop(Pipeline.scopedRest (Ix := HIx 1) (Name := ℕ) (U := UU) (Val := Elt F) (Lvl := ℕ) (Pipeline.pin (pcfgs (F := F)) adm 0).spec c ∗ emp) ⊢ (pdats W 0 c).Φ 0 :=
  sep_elim_left
theorem leaves (c : Dev nD) :
    (pdats W 0 c).Φ (Fin.last (Pipeline.pin (pcfgs (F := F)) adm 0).N)
      ⊢ iprop(Pipeline.scopedRest (Ix := HIx 1) (Name := ℕ) (U := UU) (Val := Elt F) (Lvl := ℕ) (Pipeline.pin (pcfgs (F := F)) adm 0).spec c ∗ emp) := by
  show (Pipeline.scopedRest spec1 c : sProp 𝕄) ⊢ iprop(Pipeline.scopedRest spec1 c ∗ emp)
  iintro H
  isplitl [H]; · iexact H
  iempintro

/-- What the call leaves: the cell's array written, the others as they were. -/
def left (d : Dev nD) : Valuation τ sig (Elt F) := Pipeline.afterRegion (pdats W 0 d) (W d)

/-- The call as a region of the TensorCore's unscoped buffers. -/
abbrev region : Pipeline.RegionSeg (pcfgs (F := F)) adm (pdats W) (none : HIx 1) (defs₀ (F := F)) 𝒱₀ (K (F := F)).L (K (F := F)).lev 0 :=
  Pipeline.RegionSeg.ofHeldIn (pcfgs (F := F)) adm (pdats W) none defs₀ 𝒱₀ (K (F := F)).L (K (F := F)).lev 0 (fun _ => 0)
    U (fun _ => iprop(emp)) (fun _ => iprop(emp)) kitP rfl (loose W) (fun _ _ => rfl) (fun _ => rfl)
    (shares W) (enters W) (leaves W) (fun _ => 0) levels (fun _ => iprop(emp)) W (fun c w => rfl)

/-- The region is entered from the arrays held and nothing owed. -/
theorem region_pre (d : Dev nD) :
    iprop(held (d.tc : Thread nD τ) U (W d) ∗ ((∃ w, owes (d.tc : Thread nD τ) (0 : CellTallies nD τ sig (HIx 1)) w) ∗ emp ∗ emp))
      ⊢ ((region W).pre d : sProp 𝕄) := by
  have h := Pipeline.RegionSeg.ofHeldIn_pre (pcs := pcfgs (F := F)) (a := adm) (pdats := pdats W) (ι := none) (defs₀ := defs₀ (F := F)) (𝒱₀ := 𝒱₀)
    (L := (K (F := F)).L) (lv := (K (F := F)).lev) (p := 0) (D := fun _ => 0) (S := U) arrs_in (X := fun _ => iprop(emp)) (Y := fun _ => iprop(emp))
    (kit := kitP) (hK := rfl) (hbody := loose W) (howed := fun _ _ => rfl) (hrec := fun _ => rfl) (hshare := shares W) (hin := enters W) (hout := leaves W)
    (b := fun _ => 0) (hcut := levels) (R := fun _ => iprop(emp)) (W := W) (hW := fun c w => rfl) d
  exact h

/-- The region is left with the arrays held at what the call leaves and nothing owed. -/
theorem region_post (d : Dev nD) :
    ((region W).post d : sProp 𝕄)
      ⊢ iprop(held (d.tc : Thread nD τ) U (left W d) ∗ ((∃ w, owes (d.tc : Thread nD τ) (0 : CellTallies nD τ sig (HIx 1)) w) ∗ emp ∗ emp)) := by
  unfold region left
  exact Pipeline.RegionSeg.ofHeldIn_post (p := 0) arrs_in d

/-- The call, from the arrays held at `W`, runs to the arrays held at what it leaves. -/
theorem region_run (d : Dev nD) {α : Type} (k : PUnit → Prog (TpuEff nD τ sig (Elt F) (ΛP (F := F)) .tc) α) (Q : α → sProp 𝕄) :
    iprop((iprop(boundary (d.tc : Thread nD τ) ∗ held (d.tc : Thread nD τ) U (left W d)
            ∗ (∃ w, owes (d.tc : Thread nD τ) (0 : CellTallies nD τ sig (HIx 1)) w))
          -∗ wp frame (wpE (D (F := F)) 𝒱 (d.tc : Thread nD τ) none) Set.univ (k ⟨⟩) Q)
        ∗ boundary (d.tc : Thread nD τ) ∗ held (d.tc : Thread nD τ) U (W d)
        ∗ (∃ w, owes (d.tc : Thread nD τ) (0 : CellTallies nD τ sig (HIx 1)) w)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q := by
  refine BIBase.Entails.trans ?_ (Pipeline.RegionSeg.wp (pcfgs (F := F)) adm (pdats W) none cellOf_inj EP defs₀ 𝒱₀ (K (F := F)).L (K (F := F)).lev
    (region W) d none (fun _ h => nomatch h) k Q)
  iintro ⟨Hk, Hb, HW, HO, Hl, Hg, Ht⟩
  isplitl [Hk]
  · iintro ⟨Hb, Hp⟩
    ihave Hp' := (region_post W d) $$ Hp
    icases Hp' with ⟨HW, HO, -, -⟩
    iapply Hk
    isplitl [Hb]; · iexact Hb
    isplitl [HW]; · iexact HW
    iexact HO
  isplitl [Hb]; · iexact Hb
  isplitl [HW HO]
  · iapply (region_pre W d)
    isplitl [HW]; · iexact HW
    isplitl [HO]; · iexact HO
    isplitr <;> iempintro
  isplitl [Hl]; · iexact Hl
  isplitl [Hg]; · iexact Hg
  iexact Ht

end Cert.Proof.Sc

end
-- ==== Proof.Parts.lean ====
/-
  One trip of a vector subcore's loop: from the two scratches' contents, the sixteen lanes' losses of the trip's sixteen
  rows added to the accumulator. The body is straight-line code of gathers from the scratches and lanewise arithmetic;
  it is run part by part, each gather being a total function of the scratch's contents.
-/
module

public import proofs.«01_k».proof.Proof.Base

@[expose] public section

set_option maxRecDepth 16384

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Gathers as total functions -/

/-- The word `j` places after each lane's first word. -/
abbrev ix (v : IVec S16 32) (j : ℕ) : IVec S16 32 := addi v (broadcast S16 (BitVec.ofNat 32 j))

/-- The scratch `X` read at each lane's word, the word taken modulo the scratch's length. -/
def gat (X : Vec F S3264 .f32) (v : IVec S16 32) : FVec F S16 .f32 :=
  fun x => X fun a => ⟨(v x).toNat % S3264.size a, Nat.mod_lt _ (by revert a; decide)⟩

/-- Column `j` of the trip's sixteen rows, a lane a row. -/
abbrev col (X : Vec F S3264 .f32) (v : IVec S16 32) (j : ℕ) : FVec F S16 .f32 := gat X (ix v j)

/-- Every lane's words, the first and the fifty after it, lie in the scratch. -/
def Inb (v : IVec S16 32) : Prop := ∀ j : ℕ, j < 51 → ∀ x, (ix v j x).toNat < 3264

/-- So the gather of column `j` stays in the scratch. -/
theorem Inb.chk {v : IVec S16 32} (h : Inb v) (j : ℕ) (hj : j < 51) :
    ∀ a x, ((![ix v j] : Fin S3264.rank → IVec S16 32) a x).toNat < S3264.size a :=
  fun | 0 => fun x => h j hj x | ⟨_ + 1, h⟩ => absurd h (Nat.not_lt.2 (Nat.le_add_left _ _))

/-- The same, twice: where both scratches are read at one word. -/
theorem Inb.chk2 {v : IVec S16 32} (h : Inb v) (j : ℕ) (hj : j < 51) :
    (∀ a x, ((![ix v j] : Fin S3264.rank → IVec S16 32) a x).toNat < S3264.size a)
      ∧ ∀ a x, ((![ix v j] : Fin S3264.rank → IVec S16 32) a x).toNat < S3264.size a := ⟨h.chk j hj, h.chk j hj⟩

/-- A gather that stays in the scratch is that total function. -/
theorem loadIdx_eq (X : Vec F S3264 .f32) (v : IVec S16 32)
    (h : ∀ a x, ((![v] : Fin S3264.rank → IVec S16 32) a x).toNat < S3264.size a) : loadIdx X ![v] h = gat X v := by
  funext x
  refine congrArg X (funext fun a => Fin.ext ?_)
  have ha : a = (0 : Fin 1) := Subsingleton.elim _ _
  subst ha
  exact (Nat.mod_eq_of_lt (h 0 x)).symm

/-! ## Running straight-line code over the scratches -/

variable [FloatOps F]

section

variable (d : Dev nD) (L : grid0.Coords)

/-- A program of the kernel's on the vector subcore that point `L` of the call's grid is. -/
abbrev TProg (L : grid0.Coords) (α : Type) : Type 1 :=
  Prog (TpuEff nD τ sig (Elt F) Λ₀ (.scVector ((L 0).castLE hcore0) ((L 1).castLE hsub0))) α

/-- The two scratches, whole, at contents `fA` and `fB`. -/
abbrev ScrA (fA : Buf (Elt F) ((sA.access (.whole S3264)).loc (thr d L))) : sProp 𝕄 :=
  (sA.access (.whole S3264)).loc (thr d L) ↦[Finset.univ]{fullShare} fA
abbrev ScrB (fB : Buf (Elt F) ((sB.access (.whole S3264)).loc (thr d L))) : sProp 𝕄 :=
  (sB.access (.whole S3264)).loc (thr d L) ↦[Finset.univ]{fullShare} fB

/-- The scratches' contents as vectors. -/
abbrev XA (fA : Buf (Elt F) ((sA.access (.whole S3264)).loc (thr d L))) : Vec F S3264 .f32 := (sA.access (.whole S3264)).read (Elt F) fA
abbrev XB (fB : Buf (Elt F) ((sB.access (.whole S3264)).loc (thr d L))) : Vec F S3264 .f32 := (sB.access (.whole S3264)).read (Elt F) fB

variable (fA : Buf (Elt F) ((sA.access (.whole S3264)).loc (thr d L))) (fB : Buf (Elt F) ((sB.access (.whole S3264)).loc (thr d L)))

/-- `p`, run holding the two scratches, returns `r` and leaves them as they were. -/
def Runs {α : Type} (p : TProg (F := F) L α) (r : α) : Prop :=
  ∀ (Q : α → sProp 𝕄) (X : sProp 𝕄), (iprop(ScrA d L fA ∗ ScrB d L fB ∗ X) ⊢ Q r) →
    (iprop(ScrA d L fA ∗ ScrB d L fB ∗ X) ⊢ wp frame (wpE (defs₀ (F := F)) 𝒱₀ (thr d L) none) Set.univ p Q)

end

section

variable {d : Dev nD} {L : grid0.Coords}
variable {fA : Buf (Elt F) ((sA.access (.whole S3264)).loc (thr d L))} {fB : Buf (Elt F) ((sB.access (.whole S3264)).loc (thr d L))}

/-- Returning. -/
theorem Runs.ret {α : Type} (r : α) : Runs d L fA fB (pure r) r := fun Q X h => by
  rw [wp_pure]; exact h.trans fupd_intro

/-- One program after another. -/
theorem Runs.bind {α β : Type} {p : TProg (F := F) L α} {k : α → TProg (F := F) L β} {a : α} {b : β}
    (hp : Runs d L fA fB p a) (hk : Runs d L fA fB (k a) b) : Runs d L fA fB (p >>= k) b := fun Q X h => by
  rw [wp_bind]; exact hp _ X (hk Q X h)

/-- A side condition that holds. -/
theorem Runs.assume {β : Type} {P : Prop} {dec : Decidable P} {k : PLift P → TProg (F := F) L β} {b : β} (hP : P)
    (hk : Runs d L fA fB (k ⟨hP⟩) b) : Runs d L fA fB (Prog.lift (TpuEff.assume P dec) >>= k) b := fun Q X h => by
  change _ ⊢ wp frame _ _ (.op (.assume P dec) k) Q
  rw [wp_assume_of _ _ _ _ hP]; exact hk Q X h

/-- A gather from the first scratch. -/
theorem Runs.loadA {β : Type} {v : IVec S16 32} {h : ∀ a x, ((![v] : Fin S3264.rank → IVec S16 32) a x).toNat < S3264.size a}
    {hl : sA.view.Loads} {k : Vec F S16 .f32 → TProg (F := F) L β} {b : β} (hk : Runs d L fA fB (k (gat (XA d L fA) v)) b) :
    Runs d L fA fB (SparseCore.vectorLoadIdx sA ![v] h hl >>= k) b := fun Q X hX => by
  iintro ⟨HA, HB, HX⟩
  iapply (SparseCore.wp_vectorLoadIdx (defs := defs₀ (F := F)) 𝒱₀ (thr d L) none Set.univ (base := sA) (S := Finset.univ) (q := fullShare)
    (Finset.subset_univ _)) $$ HA
  iintro HA
  rw [loadIdx_eq]
  iapply (hk Q X hX)
  isplitl [HA]
  · iexact HA
  isplitl [HB]
  · iexact HB
  iexact HX

/-- A gather from the second. -/
theorem Runs.loadB {β : Type} {v : IVec S16 32} {h : ∀ a x, ((![v] : Fin S3264.rank → IVec S16 32) a x).toNat < S3264.size a}
    {hl : sB.view.Loads} {k : Vec F S16 .f32 → TProg (F := F) L β} {b : β} (hk : Runs d L fA fB (k (gat (XB d L fB) v)) b) :
    Runs d L fA fB (SparseCore.vectorLoadIdx sB ![v] h hl >>= k) b := fun Q X hX => by
  iintro ⟨HA, HB, HX⟩
  iapply (SparseCore.wp_vectorLoadIdx (defs := defs₀ (F := F)) 𝒱₀ (thr d L) none Set.univ (base := sB) (S := Finset.univ) (q := fullShare)
    (Finset.subset_univ _)) $$ HB
  iintro HB
  rw [loadIdx_eq]
  iapply (hk Q X hX)
  isplitl [HA]
  · iexact HA
  isplitl [HB]
  · iexact HB
  iexact HX

end

/-! ## The trip's body, part by part -/

section

variable {d : Dev nD} {L : grid0.Coords}
variable {fA : Buf (Elt F) ((sA.access (.whole S3264)).loc (thr d L))} {fB : Buf (Elt F) ((sB.access (.whole S3264)).loc (thr d L))}
variable {a2 a3 : Memref sig .scVector .hbm S104448 .f32} {h2 : a2.IsWhole} {h3 : a3.IsWhole}
variable {a4 : Memref sig .scVector .hbm S32x16 .f32} {h4 : a4.IsWhole} {h5 : sA.IsWhole} {h6 : sB.IsWhole}
variable {a7 : Memref sig .scVector .vmem S16 .f32} {h7 : a7.IsWhole} {r0 r1 r2 : DmaSems sig S_}

/-- Part 1 of the trip's body, from the scratches' contents: what it hands on. -/
theorem part1 (t : Fin k0_t1_loop.trips) (hb : Inb (k0_pay5 k0_pay1 0#32 1#32 t))   :
    Runs d L fA fB (k0_part1 (F := F) L a2 h2 a3 h3 a4 h4 sA h5 sB h6 a7 h7 r0 r1 r2 k0_pay1 0#32 1#32 t)
      ⟨k0_pay5 k0_pay1 0#32 1#32 t, k0_pay15 (col (XA d L fA) (k0_pay5 k0_pay1 0#32 1#32 t) 0) (col (XA d L fA) (k0_pay5 k0_pay1 0#32 1#32 t) 3) (col (XA d L fA) (k0_pay5 k0_pay1 0#32 1#32 t) 6) (col (XA d L fA) (k0_pay5 k0_pay1 0#32 1#32 t) 9) (col (XA d L fA) (k0_pay5 k0_pay1 0#32 1#32 t) 12) (col (XA d L fA) (k0_pay5 k0_pay1 0#32 1#32 t) 15) (col (XA d L fA) (k0_pay5 k0_pay1 0#32 1#32 t) 18) (col (XA d L fA) (k0_pay5 k0_pay1 0#32 1#32 t) 21) (col (XA d L fA) (k0_pay5 k0_pay1 0#32 1#32 t) 24), k0_pay16⟩ := by
  rw [k0_part1_eq_skeleton]; unfold k0_part1_skel
  refine Runs.assume (hb.chk 0 (by decide)) ?_
  refine Runs.loadA ?_
  refine Runs.assume (hb.chk 3 (by decide)) ?_
  refine Runs.loadA ?_
  refine Runs.assume (hb.chk 6 (by decide)) ?_
  refine Runs.loadA ?_
  refine Runs.assume (hb.chk 9 (by decide)) ?_
  refine Runs.loadA ?_
  refine Runs.assume (hb.chk 12 (by decide)) ?_
  refine Runs.loadA ?_
  refine Runs.assume (hb.chk 15 (by decide)) ?_
  refine Runs.loadA ?_
  refine Runs.assume (hb.chk 18 (by decide)) ?_
  refine Runs.loadA ?_
  refine Runs.assume (hb.chk 21 (by decide)) ?_
  refine Runs.loadA ?_
  refine Runs.assume (hb.chk 24 (by decide)) ?_
  refine Runs.loadA ?_
  exact Runs.ret _

/-- Part 2 of the trip's body, from the scratches' contents: what it hands on. -/
theorem part2 (v12 : IVec S16 32) (hb : Inb v12) (v47 : FVec F S16 .f32)  :
    Runs d L fA fB (k0_part2 (F := F) L a2 h2 a3 h3 a4 h4 sA h5 sB h6 a7 h7 r0 r1 r2 v12 v47 k0_pay16)
      ⟨k0_pay24 v47 (col (XA d L fA) v12 27) (col (XA d L fA) v12 30) (col (XA d L fA) v12 33) (col (XA d L fA) v12 36) (col (XA d L fA) v12 39) (col (XA d L fA) v12 42) (col (XA d L fA) v12 45) (col (XA d L fA) v12 48), k0_pay27 (col (XA d L fA) v12 1) (col (XA d L fA) v12 4), (ix v12 7)⟩ := by
  rw [k0_part2_eq_skeleton]; unfold k0_part2_skel
  refine Runs.assume (hb.chk 27 (by decide)) ?_
  refine Runs.loadA ?_
  refine Runs.assume (hb.chk 30 (by decide)) ?_
  refine Runs.loadA ?_
  refine Runs.assume (hb.chk 33 (by decide)) ?_
  refine Runs.loadA ?_
  refine Runs.assume (hb.chk 36 (by decide)) ?_
  refine Runs.loadA ?_
  refine Runs.assume (hb.chk 39 (by decide)) ?_
  refine Runs.loadA ?_
  refine Runs.assume (hb.chk 42 (by decide)) ?_
  refine Runs.loadA ?_
  refine Runs.assume (hb.chk 45 (by decide)) ?_
  refine Runs.loadA ?_
  refine Runs.assume (hb.chk 48 (by decide)) ?_
  refine Runs.loadA ?_
  refine Runs.assume (hb.chk 1 (by decide)) ?_
  refine Runs.loadA ?_
  refine Runs.assume (hb.chk 4 (by decide)) ?_
  refine Runs.loadA ?_
  exact Runs.ret _

/-- Part 3 of the trip's body, from the scratches' contents: what it hands on. -/
theorem part3 (v12 : IVec S16 32) (hb : Inb v12) (v86 : FVec F S16 .f32)  :
    Runs d L fA fB (k0_part3 (F := F) L a2 h2 a3 h3 a4 h4 sA h5 sB h6 a7 h7 r0 r1 r2 v12 v86 (ix v12 7))
      ⟨k0_pay38 v86 (col (XA d L fA) v12 7) (col (XA d L fA) v12 10) (col (XA d L fA) v12 13) (col (XA d L fA) v12 16) (col (XA d L fA) v12 19) (col (XA d L fA) v12 22) (col (XA d L fA) v12 25) (col (XA d L fA) v12 28) (col (XA d L fA) v12 31) (col (XA d L fA) v12 34), (ix v12 37)⟩ := by
  rw [k0_part3_eq_skeleton]; unfold k0_part3_skel
  refine Runs.assume (hb.chk 7 (by decide)) ?_
  refine Runs.loadA ?_
  refine Runs.assume (hb.chk 10 (by decide)) ?_
  refine Runs.loadA ?_
  refine Runs.assume (hb.chk 13 (by decide)) ?_
  refine Runs.loadA ?_
  refine Runs.assume (hb.chk 16 (by decide)) ?_
  refine Runs.loadA ?_
  refine Runs.assume (hb.chk 19 (by decide)) ?_
  refine Runs.loadA ?_
  refine Runs.assume (hb.chk 22 (by decide)) ?_
  refine Runs.loadA ?_
  refine Runs.assume (hb.chk 25 (by decide)) ?_
  refine Runs.loadA ?_
  refine Runs.assume (hb.chk 28 (by decide)) ?_
  refine Runs.loadA ?_
  refine Runs.assume (hb.chk 31 (by decide)) ?_
  refine Runs.loadA ?_
  refine Runs.assume (hb.chk 34 (by decide)) ?_
  refine Runs.loadA ?_
  exact Runs.ret _

/-- Part 4 of the trip's body, from the scratches' contents: what it hands on. -/
theorem part4 (v12 : IVec S16 32) (hb : Inb v12) (v126 : FVec F S16 .f32)  :
    Runs d L fA fB (k0_part4 (F := F) L a2 h2 a3 h3 a4 h4 sA h5 sB h6 a7 h7 r0 r1 r2 v12 v126 (ix v12 37))
      ⟨k0_pay44 v126 (col (XA d L fA) v12 37) (col (XA d L fA) v12 40) (col (XA d L fA) v12 43) (col (XA d L fA) v12 46) (col (XA d L fA) v12 49), k0_pay50 (col (XA d L fA) v12 2) (col (XA d L fA) v12 5) (col (XA d L fA) v12 8) (col (XA d L fA) v12 11) (col (XA d L fA) v12 14), (ix v12 17), (hb.chk 17 (by decide))⟩ := by
  rw [k0_part4_eq_skeleton]; unfold k0_part4_skel
  refine Runs.assume (hb.chk 37 (by decide)) ?_
  refine Runs.loadA ?_
  refine Runs.assume (hb.chk 40 (by decide)) ?_
  refine Runs.loadA ?_
  refine Runs.assume (hb.chk 43 (by decide)) ?_
  refine Runs.loadA ?_
  refine Runs.assume (hb.chk 46 (by decide)) ?_
  refine Runs.loadA ?_
  refine Runs.assume (hb.chk 49 (by decide)) ?_
  refine Runs.loadA ?_
  refine Runs.assume (hb.chk 2 (by decide)) ?_
  refine Runs.loadA ?_
  refine Runs.assume (hb.chk 5 (by decide)) ?_
  refine Runs.loadA ?_
  refine Runs.assume (hb.chk 8 (by decide)) ?_
  refine Runs.loadA ?_
  refine Runs.assume (hb.chk 11 (by decide)) ?_
  refine Runs.loadA ?_
  refine Runs.assume (hb.chk 14 (by decide)) ?_
  refine Runs.loadA ?_
  refine Runs.assume (hb.chk 17 (by decide)) ?_
  exact Runs.ret _

/-- Part 5 of the trip's body, from the scratches' contents: what it hands on. -/
theorem part5 (v12 : IVec S16 32) (hb : Inb v12) (v165 : FVec F S16 .f32) (k0_hw40 : k0_chk40 (ix v12 17)) :
    Runs d L fA fB (k0_part5 (F := F) L a2 h2 a3 h3 a4 h4 sA h5 sB h6 a7 h7 r0 r1 r2 v12 v165 (ix v12 17) k0_hw40)
      ⟨k0_pay61 v165 (col (XA d L fA) v12 17) (col (XA d L fA) v12 20) (col (XA d L fA) v12 23) (col (XA d L fA) v12 26) (col (XA d L fA) v12 29) (col (XA d L fA) v12 32) (col (XA d L fA) v12 35) (col (XA d L fA) v12 38) (col (XA d L fA) v12 41) (col (XA d L fA) v12 44), (ix v12 47), (hb.chk 47 (by decide))⟩ := by
  rw [k0_part5_eq_skeleton]; unfold k0_part5_skel
  refine Runs.loadA ?_
  refine Runs.assume (hb.chk 20 (by decide)) ?_
  refine Runs.loadA ?_
  refine Runs.assume (hb.chk 23 (by decide)) ?_
  refine Runs.loadA ?_
  refine Runs.assume (hb.chk 26 (by decide)) ?_
  refine Runs.loadA ?_
  refine Runs.assume (hb.chk 29 (by decide)) ?_
  refine Runs.loadA ?_
  refine Runs.assume (hb.chk 32 (by decide)) ?_
  refine Runs.loadA ?_
  refine Runs.assume (hb.chk 35 (by decide)) ?_
  refine Runs.loadA ?_
  refine Runs.assume (hb.chk 38 (by decide)) ?_
  refine Runs.loadA ?_
  refine Runs.assume (hb.chk 41 (by decide)) ?_
  refine Runs.loadA ?_
  refine Runs.assume (hb.chk 44 (by decide)) ?_
  refine Runs.loadA ?_
  refine Runs.assume (hb.chk 47 (by decide)) ?_
  exact Runs.ret _

/-- Part 6 of the trip's body, from the scratches' contents: what it hands on. -/
theorem part6 (v12 : IVec S16 32) (hb : Inb v12) (v79 : FVec F S16 .f32) (v146 : FVec F S16 .f32) (v205 : FVec F S16 .f32) (k0_hw50 : k0_chk50 (ix v12 47)) :
    Runs d L fA fB (k0_part6 (F := F) L a2 h2 a3 h3 a4 h4 sA h5 sB h6 a7 h7 r0 r1 r2 v12 v79 v146 v205 (ix v12 47) k0_hw50)
      ⟨k0_pay64 v79 v146 v205 (col (XA d L fA) v12 47) (col (XA d L fA) v12 50), k0_pay69 v79 v146 v205 (col (XA d L fA) v12 47) (col (XA d L fA) v12 50) (col (XA d L fA) v12 0) (col (XA d L fA) v12 3) (col (XA d L fA) v12 6) (col (XA d L fA) v12 9), k0_pay70 (col (XB d L fB) v12 0) (col (XB d L fB) v12 3) (col (XB d L fB) v12 6) (col (XB d L fB) v12 9), k0_pay71 (col (XA d L fA) v12 0) (col (XB d L fB) v12 0) (col (XA d L fA) v12 3) (col (XB d L fB) v12 3) (col (XA d L fA) v12 6) (col (XB d L fB) v12 6) (col (XA d L fA) v12 9) (col (XB d L fB) v12 9), (ix v12 12), (hb.chk2 12 (by decide)), (col (XA d L fA) v12 12)⟩ := by
  rw [k0_part6_eq_skeleton]; unfold k0_part6_skel
  refine Runs.loadA ?_
  refine Runs.assume (hb.chk 50 (by decide)) ?_
  refine Runs.loadA ?_
  refine Runs.assume (hb.chk2 0 (by decide)) ?_
  refine Runs.loadA ?_
  refine Runs.loadB ?_
  refine Runs.assume (hb.chk2 3 (by decide)) ?_
  refine Runs.loadA ?_
  refine Runs.loadB ?_
  refine Runs.assume (hb.chk2 6 (by decide)) ?_
  refine Runs.loadA ?_
  refine Runs.loadB ?_
  refine Runs.assume (hb.chk2 9 (by decide)) ?_
  refine Runs.loadA ?_
  refine Runs.loadB ?_
  refine Runs.assume (hb.chk2 12 (by decide)) ?_
  refine Runs.loadA ?_
  exact Runs.ret _

/-- Part 7 of the trip's body, from the scratches' contents: what it hands on. -/
theorem part7 (v12 : IVec S16 32) (hb : Inb v12) (v215 : FVec F S16 .f32) (v249 : FVec F S16 .f32) (v250 : FVec F S16 .f32) (v252 : FVec F S16 .f32) (v255 : Vec F S16 .f32) (k0_hw56 : k0_chk56 (ix v12 12)) :
    Runs d L fA fB (k0_part7 (F := F) L a2 h2 a3 h3 a4 h4 sA h5 sB h6 a7 h7 r0 r1 r2 v12 v215 v249 v250 v252 (ix v12 12) k0_hw56 v255)
      ⟨k0_pay77 v215 v249 v255 (col (XA d L fA) v12 15) (col (XA d L fA) v12 18) (col (XA d L fA) v12 21) (col (XA d L fA) v12 24), k0_pay78 v250 (col (XB d L fB) v12 12) (col (XB d L fB) v12 15) (col (XB d L fB) v12 18) (col (XB d L fB) v12 21) (col (XB d L fB) v12 24), k0_pay79 v252 v255 (col (XB d L fB) v12 12) (col (XA d L fA) v12 15) (col (XB d L fB) v12 15) (col (XA d L fA) v12 18) (col (XB d L fB) v12 18) (col (XA d L fA) v12 21) (col (XB d L fB) v12 21) (col (XA d L fA) v12 24) (col (XB d L fB) v12 24), (ix v12 27), (hb.chk2 27 (by decide)), (col (XA d L fA) v12 27)⟩ := by
  rw [k0_part7_eq_skeleton]; unfold k0_part7_skel
  refine Runs.loadB ?_
  refine Runs.assume (hb.chk2 15 (by decide)) ?_
  refine Runs.loadA ?_
  refine Runs.loadB ?_
  refine Runs.assume (hb.chk2 18 (by decide)) ?_
  refine Runs.loadA ?_
  refine Runs.loadB ?_
  refine Runs.assume (hb.chk2 21 (by decide)) ?_
  refine Runs.loadA ?_
  refine Runs.loadB ?_
  refine Runs.assume (hb.chk2 24 (by decide)) ?_
  refine Runs.loadA ?_
  refine Runs.loadB ?_
  refine Runs.assume (hb.chk2 27 (by decide)) ?_
  refine Runs.loadA ?_
  exact Runs.ret _

/-- Part 8 of the trip's body, from the scratches' contents: what it hands on. -/
theorem part8 (v12 : IVec S16 32) (hb : Inb v12) (v215 : FVec F S16 .f32) (v299 : FVec F S16 .f32) (v300 : FVec F S16 .f32) (v302 : FVec F S16 .f32) (v305 : Vec F S16 .f32) (k0_hw61 : k0_chk61 (ix v12 27)) :
    Runs d L fA fB (k0_part8 (F := F) L a2 h2 a3 h3 a4 h4 sA h5 sB h6 a7 h7 r0 r1 r2 v12 v215 v299 v300 v302 (ix v12 27) k0_hw61 v305)
      ⟨k0_pay85 v215 v299 v305 (col (XA d L fA) v12 30) (col (XA d L fA) v12 33) (col (XA d L fA) v12 36) (col (XA d L fA) v12 39), k0_pay86 v300 (col (XB d L fB) v12 27) (col (XB d L fB) v12 30) (col (XB d L fB) v12 33) (col (XB d L fB) v12 36) (col (XB d L fB) v12 39), k0_pay87 v302 v305 (col (XB d L fB) v12 27) (col (XA d L fA) v12 30) (col (XB d L fB) v12 30) (col (XA d L fA) v12 33) (col (XB d L fB) v12 33) (col (XA d L fA) v12 36) (col (XB d L fB) v12 36) (col (XA d L fA) v12 39) (col (XB d L fB) v12 39), (ix v12 42), (hb.chk2 42 (by decide)), (col (XA d L fA) v12 42)⟩ := by
  rw [k0_part8_eq_skeleton]; unfold k0_part8_skel
  refine Runs.loadB ?_
  refine Runs.assume (hb.chk2 30 (by decide)) ?_
  refine Runs.loadA ?_
  refine Runs.loadB ?_
  refine Runs.assume (hb.chk2 33 (by decide)) ?_
  refine Runs.loadA ?_
  refine Runs.loadB ?_
  refine Runs.assume (hb.chk2 36 (by decide)) ?_
  refine Runs.loadA ?_
  refine Runs.loadB ?_
  refine Runs.assume (hb.chk2 39 (by decide)) ?_
  refine Runs.loadA ?_
  refine Runs.loadB ?_
  refine Runs.assume (hb.chk2 42 (by decide)) ?_
  refine Runs.loadA ?_
  exact Runs.ret _

/-- Part 9 of the trip's body, from the scratches' contents: what it hands on. -/
theorem part9 (v12 : IVec S16 32) (hb : Inb v12) (v215 : FVec F S16 .f32) (v349 : FVec F S16 .f32) (v350 : FVec F S16 .f32) (v352 : FVec F S16 .f32) (v355 : Vec F S16 .f32) (k0_hw66 : k0_chk66 (ix v12 42)) :
    Runs d L fA fB (k0_part9 (F := F) L a2 h2 a3 h3 a4 h4 sA h5 sB h6 a7 h7 r0 r1 r2 v12 v215 v349 v350 v352 (ix v12 42) k0_hw66 v355)
      ⟨k0_pay91 v215 v349 v355 (col (XA d L fA) v12 45) (col (XA d L fA) v12 48), k0_pay92 v350 (col (XB d L fB) v12 42) (col (XB d L fB) v12 45) (col (XB d L fB) v12 48), k0_pay93 v352 v355 (col (XB d L fB) v12 42) (col (XA d L fA) v12 45) (col (XB d L fB) v12 45) (col (XA d L fA) v12 48) (col (XB d L fB) v12 48), k0_pay96 v215 (col (XA d L fA) v12 1) (col (XA d L fA) v12 4), k0_pay97 (col (XB d L fB) v12 1) (col (XB d L fB) v12 4), k0_pay98 (col (XA d L fA) v12 1) (col (XB d L fB) v12 1) (col (XA d L fA) v12 4) (col (XB d L fB) v12 4), (col (XA d L fA) v12 7), (col (XB d L fB) v12 7), k0_pay100 v215 (col (XA d L fA) v12 7)⟩ := by
  rw [k0_part9_eq_skeleton]; unfold k0_part9_skel
  refine Runs.loadB ?_
  refine Runs.assume (hb.chk2 45 (by decide)) ?_
  refine Runs.loadA ?_
  refine Runs.loadB ?_
  refine Runs.assume (hb.chk2 48 (by decide)) ?_
  refine Runs.loadA ?_
  refine Runs.loadB ?_
  refine Runs.assume (hb.chk2 1 (by decide)) ?_
  refine Runs.loadA ?_
  refine Runs.loadB ?_
  refine Runs.assume (hb.chk2 4 (by decide)) ?_
  refine Runs.loadA ?_
  refine Runs.loadB ?_
  refine Runs.assume (hb.chk2 7 (by decide)) ?_
  refine Runs.loadA ?_
  refine Runs.loadB ?_
  exact Runs.ret _

/-- Part 10 of the trip's body, from the scratches' contents: what it hands on. -/
theorem part10 (v12 : IVec S16 32) (hb : Inb v12) (v215 : FVec F S16 .f32) (v396 : FVec F S16 .f32) (v397 : FVec F S16 .f32) (v399 : FVec F S16 .f32) (v402 : Vec F S16 .f32) (v403 : Vec F S16 .f32) (v405 : FVec F S16 .f32)  :
    Runs d L fA fB (k0_part10 (F := F) L a2 h2 a3 h3 a4 h4 sA h5 sB h6 a7 h7 r0 r1 r2 v12 v215 v396 v397 v399 v402 v403 v405)
      ⟨k0_pay105 v215 v396 v405 (col (XA d L fA) v12 10) (col (XA d L fA) v12 13) (col (XA d L fA) v12 16) (col (XA d L fA) v12 19), k0_pay106 v397 v403 (col (XB d L fB) v12 10) (col (XB d L fB) v12 13) (col (XB d L fB) v12 16) (col (XB d L fB) v12 19), k0_pay107 v399 v402 v403 (col (XA d L fA) v12 10) (col (XB d L fB) v12 10) (col (XA d L fA) v12 13) (col (XB d L fB) v12 13) (col (XA d L fA) v12 16) (col (XB d L fB) v12 16) (col (XA d L fA) v12 19) (col (XB d L fB) v12 19), (col (XA d L fA) v12 22), (col (XB d L fB) v12 22), k0_pay109 v215 (col (XA d L fA) v12 22)⟩ := by
  rw [k0_part10_eq_skeleton]; unfold k0_part10_skel
  refine Runs.assume (hb.chk2 10 (by decide)) ?_
  refine Runs.loadA ?_
  refine Runs.loadB ?_
  refine Runs.assume (hb.chk2 13 (by decide)) ?_
  refine Runs.loadA ?_
  refine Runs.loadB ?_
  refine Runs.assume (hb.chk2 16 (by decide)) ?_
  refine Runs.loadA ?_
  refine Runs.loadB ?_
  refine Runs.assume (hb.chk2 19 (by decide)) ?_
  refine Runs.loadA ?_
  refine Runs.loadB ?_
  refine Runs.assume (hb.chk2 22 (by decide)) ?_
  refine Runs.loadA ?_
  refine Runs.loadB ?_
  exact Runs.ret _

/-- Part 11 of the trip's body, from the scratches' contents: what it hands on. -/
theorem part11 (v12 : IVec S16 32) (hb : Inb v12) (v215 : FVec F S16 .f32) (v446 : FVec F S16 .f32) (v447 : FVec F S16 .f32) (v449 : FVec F S16 .f32) (v452 : Vec F S16 .f32) (v453 : Vec F S16 .f32) (v455 : FVec F S16 .f32)  :
    Runs d L fA fB (k0_part11 (F := F) L a2 h2 a3 h3 a4 h4 sA h5 sB h6 a7 h7 r0 r1 r2 v12 v215 v446 v447 v449 v452 v453 v455)
      ⟨k0_pay114 v215 v446 v455 (col (XA d L fA) v12 25) (col (XA d L fA) v12 28) (col (XA d L fA) v12 31) (col (XA d L fA) v12 34), k0_pay115 v447 v453 (col (XB d L fB) v12 25) (col (XB d L fB) v12 28) (col (XB d L fB) v12 31) (col (XB d L fB) v12 34), k0_pay116 v449 v452 v453 (col (XA d L fA) v12 25) (col (XB d L fB) v12 25) (col (XA d L fA) v12 28) (col (XB d L fB) v12 28) (col (XA d L fA) v12 31) (col (XB d L fB) v12 31) (col (XA d L fA) v12 34) (col (XB d L fB) v12 34), (col (XA d L fA) v12 37), (col (XB d L fB) v12 37), k0_pay118 v215 (col (XA d L fA) v12 37)⟩ := by
  rw [k0_part11_eq_skeleton]; unfold k0_part11_skel
  refine Runs.assume (hb.chk2 25 (by decide)) ?_
  refine Runs.loadA ?_
  refine Runs.loadB ?_
  refine Runs.assume (hb.chk2 28 (by decide)) ?_
  refine Runs.loadA ?_
  refine Runs.loadB ?_
  refine Runs.assume (hb.chk2 31 (by decide)) ?_
  refine Runs.loadA ?_
  refine Runs.loadB ?_
  refine Runs.assume (hb.chk2 34 (by decide)) ?_
  refine Runs.loadA ?_
  refine Runs.loadB ?_
  refine Runs.assume (hb.chk2 37 (by decide)) ?_
  refine Runs.loadA ?_
  refine Runs.loadB ?_
  exact Runs.ret _

/-- Part 12 of the trip's body, from the scratches' contents: what it hands on. -/
theorem part12 (v12 : IVec S16 32) (hb : Inb v12) (v215 : FVec F S16 .f32) (v496 : FVec F S16 .f32) (v497 : FVec F S16 .f32) (v499 : FVec F S16 .f32) (v502 : Vec F S16 .f32) (v503 : Vec F S16 .f32) (v505 : FVec F S16 .f32)  :
    Runs d L fA fB (k0_part12 (F := F) L a2 h2 a3 h3 a4 h4 sA h5 sB h6 a7 h7 r0 r1 r2 v12 v215 v496 v497 v499 v502 v503 v505)
      ⟨k0_pay123 v215 v496 v505 (col (XA d L fA) v12 40) (col (XA d L fA) v12 43) (col (XA d L fA) v12 46) (col (XA d L fA) v12 49), k0_pay124 v497 v503 (col (XB d L fB) v12 40) (col (XB d L fB) v12 43) (col (XB d L fB) v12 46) (col (XB d L fB) v12 49), k0_pay125 v499 v502 v503 (col (XA d L fA) v12 40) (col (XB d L fB) v12 40) (col (XA d L fA) v12 43) (col (XB d L fB) v12 43) (col (XA d L fA) v12 46) (col (XB d L fB) v12 46) (col (XA d L fA) v12 49) (col (XB d L fB) v12 49), (col (XA d L fA) v12 2), (col (XB d L fB) v12 2), k0_pay127 v215 (col (XA d L fA) v12 2)⟩ := by
  rw [k0_part12_eq_skeleton]; unfold k0_part12_skel
  refine Runs.assume (hb.chk2 40 (by decide)) ?_
  refine Runs.loadA ?_
  refine Runs.loadB ?_
  refine Runs.assume (hb.chk2 43 (by decide)) ?_
  refine Runs.loadA ?_
  refine Runs.loadB ?_
  refine Runs.assume (hb.chk2 46 (by decide)) ?_
  refine Runs.loadA ?_
  refine Runs.loadB ?_
  refine Runs.assume (hb.chk2 49 (by decide)) ?_
  refine Runs.loadA ?_
  refine Runs.loadB ?_
  refine Runs.assume (hb.chk2 2 (by decide)) ?_
  refine Runs.loadA ?_
  refine Runs.loadB ?_
  exact Runs.ret _

/-- Part 13 of the trip's body, from the scratches' contents: what it hands on. -/
theorem part13 (v12 : IVec S16 32) (hb : Inb v12) (v215 : FVec F S16 .f32) (v552 : Vec F S16 .f32) (v553 : Vec F S16 .f32) (v555 : FVec F S16 .f32)  :
    Runs d L fA fB (k0_part13 (F := F) L a2 h2 a3 h3 a4 h4 sA h5 sB h6 a7 h7 r0 r1 r2 v12 v215 v552 v553 v555)
      ⟨k0_pay132 v552 v553 (col (XA d L fA) v12 5) (col (XB d L fB) v12 5) (col (XA d L fA) v12 8) (col (XB d L fB) v12 8) (col (XA d L fA) v12 11) (col (XB d L fB) v12 11) (col (XA d L fA) v12 14) (col (XB d L fB) v12 14), k0_pay134 v215 v555 (col (XA d L fA) v12 5) (col (XA d L fA) v12 8) (col (XA d L fA) v12 11) (col (XA d L fA) v12 14) (col (XA d L fA) v12 17), k0_pay135 v553 (col (XB d L fB) v12 5) (col (XB d L fB) v12 8) (col (XB d L fB) v12 11) (col (XB d L fB) v12 14) (col (XB d L fB) v12 17), k0_pay136 (col (XA d L fA) v12 17) (col (XB d L fB) v12 17)⟩ := by
  rw [k0_part13_eq_skeleton]; unfold k0_part13_skel
  refine Runs.assume (hb.chk2 5 (by decide)) ?_
  refine Runs.loadA ?_
  refine Runs.loadB ?_
  refine Runs.assume (hb.chk2 8 (by decide)) ?_
  refine Runs.loadA ?_
  refine Runs.loadB ?_
  refine Runs.assume (hb.chk2 11 (by decide)) ?_
  refine Runs.loadA ?_
  refine Runs.loadB ?_
  refine Runs.assume (hb.chk2 14 (by decide)) ?_
  refine Runs.loadA ?_
  refine Runs.loadB ?_
  refine Runs.assume (hb.chk2 17 (by decide)) ?_
  refine Runs.loadA ?_
  refine Runs.loadB ?_
  exact Runs.ret _

/-- Part 14 of the trip's body, from the scratches' contents: what it hands on. -/
theorem part14 (v12 : IVec S16 32) (hb : Inb v12) (v215 : FVec F S16 .f32) (v596 : FVec F S16 .f32) (v603 : FVec F S16 .f32) (v604 : FVec F S16 .f32) (v605 : FVec F S16 .f32)  :
    Runs d L fA fB (k0_part14 (F := F) L a2 h2 a3 h3 a4 h4 sA h5 sB h6 a7 h7 r0 r1 r2 v12 v215 v596 v603 v604 v605)
      ⟨k0_pay141 v596 v605 (col (XA d L fA) v12 20) (col (XB d L fB) v12 20) (col (XA d L fA) v12 23) (col (XB d L fB) v12 23) (col (XA d L fA) v12 26) (col (XB d L fB) v12 26) (col (XA d L fA) v12 29) (col (XB d L fB) v12 29), k0_pay143 v215 v603 (col (XA d L fA) v12 20) (col (XA d L fA) v12 23) (col (XA d L fA) v12 26) (col (XA d L fA) v12 29) (col (XA d L fA) v12 32), k0_pay144 v604 (col (XB d L fB) v12 20) (col (XB d L fB) v12 23) (col (XB d L fB) v12 26) (col (XB d L fB) v12 29) (col (XB d L fB) v12 32), k0_pay145 (col (XA d L fA) v12 32) (col (XB d L fB) v12 32)⟩ := by
  rw [k0_part14_eq_skeleton]; unfold k0_part14_skel
  refine Runs.assume (hb.chk2 20 (by decide)) ?_
  refine Runs.loadA ?_
  refine Runs.loadB ?_
  refine Runs.assume (hb.chk2 23 (by decide)) ?_
  refine Runs.loadA ?_
  refine Runs.loadB ?_
  refine Runs.assume (hb.chk2 26 (by decide)) ?_
  refine Runs.loadA ?_
  refine Runs.loadB ?_
  refine Runs.assume (hb.chk2 29 (by decide)) ?_
  refine Runs.loadA ?_
  refine Runs.loadB ?_
  refine Runs.assume (hb.chk2 32 (by decide)) ?_
  refine Runs.loadA ?_
  refine Runs.loadB ?_
  exact Runs.ret _

/-- Part 15 of the trip's body, from the scratches' contents: what it hands on. -/
theorem part15 (v12 : IVec S16 32) (hb : Inb v12) (v215 : FVec F S16 .f32) (v646 : FVec F S16 .f32) (v653 : FVec F S16 .f32) (v654 : FVec F S16 .f32) (v655 : FVec F S16 .f32)  :
    Runs d L fA fB (k0_part15 (F := F) L a2 h2 a3 h3 a4 h4 sA h5 sB h6 a7 h7 r0 r1 r2 v12 v215 v646 v653 v654 v655)
      ⟨k0_pay150 v646 v655 (col (XA d L fA) v12 35) (col (XB d L fB) v12 35) (col (XA d L fA) v12 38) (col (XB d L fB) v12 38) (col (XA d L fA) v12 41) (col (XB d L fB) v12 41) (col (XA d L fA) v12 44) (col (XB d L fB) v12 44), k0_pay152 v215 v653 (col (XA d L fA) v12 35) (col (XA d L fA) v12 38) (col (XA d L fA) v12 41) (col (XA d L fA) v12 44) (col (XA d L fA) v12 47), k0_pay153 v654 (col (XB d L fB) v12 35) (col (XB d L fB) v12 38) (col (XB d L fB) v12 41) (col (XB d L fB) v12 44) (col (XB d L fB) v12 47), k0_pay154 (col (XA d L fA) v12 47) (col (XB d L fB) v12 47)⟩ := by
  rw [k0_part15_eq_skeleton]; unfold k0_part15_skel
  refine Runs.assume (hb.chk2 35 (by decide)) ?_
  refine Runs.loadA ?_
  refine Runs.loadB ?_
  refine Runs.assume (hb.chk2 38 (by decide)) ?_
  refine Runs.loadA ?_
  refine Runs.loadB ?_
  refine Runs.assume (hb.chk2 41 (by decide)) ?_
  refine Runs.loadA ?_
  refine Runs.loadB ?_
  refine Runs.assume (hb.chk2 44 (by decide)) ?_
  refine Runs.loadA ?_
  refine Runs.loadB ?_
  refine Runs.assume (hb.chk2 47 (by decide)) ?_
  refine Runs.loadA ?_
  refine Runs.loadB ?_
  exact Runs.ret _

end

end Cert.Proof.Sc

end
-- ==== Proof.Trip.lean ====
/-
  The trip of a vector subcore's loop as one function of the scratches' contents, and the body run to it.
-/
module

public import proofs.«01_k».proof.Proof.Parts

@[expose] public section

set_option maxRecDepth 16384

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

section

variable {d : Dev nD} {L : grid0.Coords}
variable {fA : Buf (Elt F) ((sA.access (.whole S3264)).loc (thr d L))} {fB : Buf (Elt F) ((sB.access (.whole S3264)).loc (thr d L))}
variable {a2 a3 : Memref sig .scVector .hbm S104448 .f32} {h2 : a2.IsWhole} {h3 : a3.IsWhole}
variable {a4 : Memref sig .scVector .hbm S32x16 .f32} {h4 : a4.IsWhole} {h5 : sA.IsWhole} {h6 : sB.IsWhole}
variable {a7 : Memref sig .scVector .vmem S16 .f32} {h7 : a7.IsWhole} {r0 r1 r2 : DmaSems sig S_}

/-! ## The trip -/

/-- From column `j₀` on every third column (those of `js`), their maximum, -/
abbrev chMax (X : Vec F S3264 .f32) (v : IVec S16 32) (j₀ : ℕ) (js : List ℕ) : FVec F S16 .f32 :=
  js.foldl (fun a j => maximumf a (col X v j)) (col X v j₀)
/-- the sum of their exponentials past `m`, -/
abbrev chExp (X : Vec F S3264 .f32) (v : IVec S16 32) (m : FVec F S16 .f32) (j₀ : ℕ) (js : List ℕ) : FVec F S16 .f32 :=
  js.foldl (fun a j => addf a (exp (subf (col X v j) m))) (exp (subf (col X v j₀) m))
/-- the sum of the second scratch's, -/
abbrev chSum (Y : Vec F S3264 .f32) (v : IVec S16 32) (j₀ : ℕ) (js : List ℕ) : FVec F S16 .f32 :=
  js.foldl (fun a j => addf a (col Y v j)) (col Y v j₀)
/-- and the sum of the products. -/
abbrev chDot (X Y : Vec F S3264 .f32) (v : IVec S16 32) (j₀ : ℕ) (js : List ℕ) : FVec F S16 .f32 :=
  js.foldl (fun a j => addf a (mulf (col Y v j) (col X v j))) (mulf (col Y v j₀) (col X v j₀))

/-- The columns after the first of each of the three runs. -/
abbrev js0 : List ℕ := [3, 6, 9, 12, 15, 18, 21, 24, 27, 30, 33, 36, 39, 42, 45, 48]
abbrev js1 : List ℕ := [4, 7, 10, 13, 16, 19, 22, 25, 28, 31, 34, 37, 40, 43, 46, 49]
abbrev js2 : List ℕ := [5, 8, 11, 14, 17, 20, 23, 26, 29, 32, 35, 38, 41, 44, 47, 50]

/-- Each lane's row's maximum. -/
def tripMax (X : Vec F S3264 .f32) (v : IVec S16 32) : FVec F S16 .f32 :=
  maximumf (maximumf (chMax X v 0 js0) (chMax X v 1 js1)) (chMax X v 2 js2)

/-- The accumulator after a trip: each lane's row's loss added. -/
def tripVal (X Y : Vec F S3264 .f32) (v : IVec S16 32) (acc : FVec F S16 .f32) : FVec F S16 .f32 :=
  addf acc (subf
    (mulf (addf (log (addf (addf (chExp X v (tripMax X v) 0 js0) (chExp X v (tripMax X v) 1 js1)) (chExp X v (tripMax X v) 2 js2))) (tripMax X v))
      (addf (addf (chSum Y v 0 js0) (chSum Y v 1 js1)) (chSum Y v 2 js2)))
    (addf (addf (chDot X Y v 0 js0) (chDot X Y v 1 js1)) (chDot X Y v 2 js2)))

/-- The lanes' first words at trip `t`. -/
abbrev base (t : Fin k0_t1_loop.trips) : IVec S16 32 := k0_pay5 k0_pay1 0#32 1#32 t

set_option maxHeartbeats 400000 in
/-- The trip's body adds the sixteen rows' losses to the accumulator. -/
theorem trip (t : Fin k0_t1_loop.trips) (acc : FVec F S16 .f32) (hb : Inb (base t)) :
    Runs d L fA fB (k0_t1_body (F := F) L a2 h2 a3 h3 a4 h4 sA h5 sB h6 a7 h7 r0 r1 r2 t acc)
      (tripVal (XA d L fA) (XB d L fB) (base t) acc) := by
  unfold k0_t1_body
  refine Runs.bind (part1 t hb) ?_
  refine Runs.bind (part2 _ hb _) ?_
  refine Runs.bind (part3 _ hb _) ?_
  refine Runs.bind (part4 _ hb _) ?_
  refine Runs.bind (part5 _ hb _ _) ?_
  refine Runs.bind (part6 _ hb _ _ _ _) ?_
  refine Runs.bind (part7 _ hb _ _ _ _ _ _) ?_
  refine Runs.bind (part8 _ hb _ _ _ _ _ _) ?_
  refine Runs.bind (part9 _ hb _ _ _ _ _ _) ?_
  refine Runs.bind (part10 _ hb _ _ _ _ _ _ _) ?_
  refine Runs.bind (part11 _ hb _ _ _ _ _ _ _) ?_
  refine Runs.bind (part12 _ hb _ _ _ _ _ _ _) ?_
  refine Runs.bind (part13 _ hb _ _ _ _) ?_
  refine Runs.bind (part14 _ hb _ _ _ _ _) ?_
  refine Runs.bind (part15 _ hb _ _ _ _ _) ?_
  refine Runs.assume (hb.chk2 50 (by decide)) ?_
  refine Runs.loadA ?_
  refine Runs.loadB ?_
  exact Runs.ret _

end

end Cert.Proof.Sc

end
-- ==== Proof.Tile.lean ====
/-
  The kernel's body on one vector subcore: the two chunks fetched, four trips over their rows, the sixteen lanes' sums
  written out to the subcore's row of the result.
-/
module

public import proofs.«01_k».proof.Proof.Trip

@[expose] public section

set_option maxRecDepth 16384

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [∀ e, Nonempty (Elt F e)]

local notation "𝕄" => MT nD τ sig (HIx 1) (Elt F) ℕ UU ℕ

/-! ## The loop -/

/-- The accumulator before trip `k`, from the scratches' contents. -/
def accAt (X Y : Vec F S3264 .f32) : ℕ → FVec F S16 .f32
  | 0 => k0_pay2
  | k + 1 => if h : k < k0_t1_loop.trips then tripVal X Y (base ⟨k, h⟩) (accAt X Y k) else accAt X Y k

theorem trips_eq : k0_t1_loop.trips = 4 := by decide

/-- Lane `x`'s first word at trip `t` is word `51 x + 816 t`. -/
theorem base_toNat : ∀ (t : Fin k0_t1_loop.trips) (x : Fin 16), (base t (fun a => x.cast (by rw [Subsingleton.elim a 0]; rfl))).toNat = 51 * x.val + 816 * t.val := by
  decide +kernel

/-- Every gather of every trip stays in the scratch. -/
theorem base_inb (t : Fin k0_t1_loop.trips) : Inb (base t) := by
  intro j hj x
  have h := base_toNat t (x 0)
  have hx : (fun a => (x 0).cast (by rw [Subsingleton.elim a 0]) : S16.Idx) = x := by
    funext a
    have ha : a = (0 : Fin 1) := Subsingleton.elim _ _
    subst ha; rfl
  have ht : t.val < 4 := trips_eq ▸ t.isLt
  have hx0 : (x 0).val < 16 := (x 0).isLt
  have h' : (base t x).toNat = 51 * (x 0).val + 816 * t.val := (congrArg (fun z => (base t z).toNat) hx).symm.trans h
  show (base t x + BitVec.ofNat 32 j).toNat < 3264
  rw [BitVec.toNat_add, BitVec.toNat_ofNat, h', Nat.mod_eq_of_lt (show j < 2 ^ 32 by omega), Nat.mod_eq_of_lt (by omega)]
  omega

section Tile

variable (d : Dev nD) (L : grid0.Coords)

section

variable {d : Dev nD} {L : grid0.Coords}
variable {fA : Buf (Elt F) ((sA.access (.whole S3264)).loc (thr d L))} {fB : Buf (Elt F) ((sB.access (.whole S3264)).loc (thr d L))}
variable {a2 a3 : Memref sig .scVector .hbm S104448 .f32} {h2 : a2.IsWhole} {h3 : a3.IsWhole}
variable {a4 : Memref sig .scVector .hbm S32x16 .f32} {h4 : a4.IsWhole} {h5 : sA.IsWhole} {h6 : sB.IsWhole}
variable {a7 : Memref sig .scVector .vmem S16 .f32} {h7 : a7.IsWhole} {r0 r1 r2 : DmaSems sig S_}

/-- The loop, from a zero accumulator: the accumulator after its trips. -/
theorem loop : Runs d L fA fB
    (Scf.Loop.for k0_t1_loop k0_t1_ok (k0_pay2 (F := F)) (k0_t1_body (F := F) L a2 h2 a3 h3 a4 h4 sA h5 sB h6 a7 h7 r0 r1 r2))
    (accAt (XA d L fA) (XB d L fB) k0_t1_loop.trips) := fun Q X h => by
  unfold Scf.Loop.for
  refine BIBase.Entails.trans ?_ (Scf.wp_for frame (wpE (defs₀ (F := F)) 𝒱₀ (thr d L) none) Set.univ _ _ _ _ _ _
    (fun k acc => iprop(⌜acc = accAt (XA d L fA) (XB d L fB) k⌝ ∗ ScrA d L fA ∗ ScrB d L fB ∗ X)) (fun k acc => ?_))
  · iintro H
    isplitl [H]
    · isplitr
      · ipureintro; rfl
      · iexact H
    · iintro %acc ⟨%e, H⟩
      subst e
      iapply h; iexact H
  · iintro ⟨%e, H⟩
    subst e
    iapply (trip k _ (base_inb k) _ X ?_) $$ H
    iintro H
    isplitr
    · ipureintro
      show _ = dite _ _ _
      rw [dif_pos k.isLt]
    · iexact H

end

/-! ## The pieces in the body's spelling -/

/-- The subcore's chunk of the logits, of the targets, and its row of the result. -/
abbrev rK (L : grid0.Coords) : Rect S104448 := Rect.unit (s := S104448) (k0_off1 L) S3264.size (k0_off1_inb L)
abbrev rO (L : grid0.Coords) : Rect S32x16 := Rect.unit (s := S32x16) (k0_off2 L) S1x16.size (k0_off2_inb L)
abbrev aK (L : grid0.Coords) : Memref sig .scVector .hbm S3264 .f32 := aV.slice (rK L) (fun _ => rfl)
abbrev bK (L : grid0.Coords) : Memref sig .scVector .hbm S3264 .f32 := bV.slice (rK L) (fun _ => rfl)
abbrev oK (L : grid0.Coords) : Memref sig .scVector .hbm S16 .f32 := (oV.slice (rO L) (fun _ => rfl)).squeeze S16 squeezes_S1x16_S16

/-- A view sliced to its whole shape reads as the view does. -/
theorem read_sliceWhole {κ : Kind} {sp : Space} {s : Shape} {e : EltTy} {Val : EltTy → Type} (v : View sig κ sp s e) (f : v.ty.Contents Val) :
    (v.slice (Rect.whole s)).read Val f = v.read Val f := by
  funext y
  rw [View.read_apply, View.read_apply]
  simp

/-- A scratch written whole holds what was written, read as the gathers read it. -/
theorem read_A (x : Vec F S3264 .f32) :
    XA d L (sA.view.writes (Elt F) sA.view.junk [⟨Rect.whole S3264, x⟩]) = x :=
  (read_sliceWhole sA.view _).trans (View.read_writes_whole _ _ _)
theorem read_B (x : Vec F S3264 .f32) :
    XB d L (sB.view.writes (Elt F) sB.view.junk [⟨Rect.whole S3264, x⟩]) = x :=
  (read_sliceWhole sB.view _).trans (View.read_writes_whole _ _ _)

section

variable {d : Dev nD} {L : grid0.Coords}
variable {a2 a3 : Memref sig .scVector .hbm S104448 .f32} {h2 : a2.IsWhole} {h3 : a3.IsWhole}
variable {a4 : Memref sig .scVector .hbm S32x16 .f32} {h4 : a4.IsWhole} {h5 : sA.IsWhole} {h6 : sB.IsWhole}
variable {a7 : Memref sig .scVector .vmem S16 .f32} {h7 : a7.IsWhole} {r0 r1 r2 : DmaSems sig S_}

/-- The loop over scratches that were fetched whole: the accumulator after four trips over what was fetched. -/
theorem loop_fetched (x y : Vec F S3264 .f32) :
    Runs d L (sA.view.writes (Elt F) sA.view.junk [⟨Rect.whole S3264, x⟩]) (sB.view.writes (Elt F) sB.view.junk [⟨Rect.whole S3264, y⟩])
      (Scf.Loop.for k0_t1_loop k0_t1_ok (k0_pay2 (F := F)) (k0_t1_body (F := F) L a2 h2 a3 h3 a4 h4 sA h5 sB h6 a7 h7 r0 r1 r2))
      (accAt x y 4) := by
  have h := loop (d := d) (L := L) (a2 := a2) (h2 := h2) (a3 := a3) (h3 := h3) (a4 := a4) (h4 := h4) (h5 := h5) (h6 := h6) (a7 := a7) (h7 := h7)
    (r0 := r0) (r1 := r1) (r2 := r2) (fA := sA.view.writes (Elt F) sA.view.junk [⟨Rect.whole S3264, x⟩])
    (fB := sB.view.writes (Elt F) sB.view.junk [⟨Rect.whole S3264, y⟩])
  rwa [read_A, read_B, trips_eq] at h

end

/-- A scratch held on all its elements, in the gathers' spelling. -/
theorem pts_A (f : Buf (Elt F) (sA.view.loc (thr d L))) :
    (sA.view.loc (thr d L) ↦[sA.view.set]{fullShare} f : sProp 𝕄) = ScrA d L f := by
  simp only [Memref.view_whole, View.set_whole]
theorem pts_B (f : Buf (Elt F) (sB.view.loc (thr d L))) :
    (sB.view.loc (thr d L) ↦[sB.view.set]{fullShare} f : sProp 𝕄) = ScrB d L f := by
  simp only [Memref.view_whole, View.set_whole]

/-- What runs over the held scratches, as a step of a larger run. -/
theorem Runs.step {fA : Buf (Elt F) ((sA.access (.whole S3264)).loc (thr d L))} {fB : Buf (Elt F) ((sB.access (.whole S3264)).loc (thr d L))}
    {α : Type} {p : TProg (F := F) L α} {r : α} (h : Runs d L fA fB p r) (Q : α → sProp 𝕄) :
    (iprop(ScrA d L fA ∗ ScrB d L fB ∗ ((ScrA d L fA ∗ ScrB d L fB) -∗ Q r)) : sProp 𝕄)
      ⊢ wp frame (wpE defs₀ 𝒱₀ (thr d L) none) Set.univ p Q := by
  refine h Q _ ?_
  iintro ⟨HA, HB, HW⟩
  iapply HW $$ [HA HB]
  isplitl [HA]
  · iexact HA
  · iexact HB

/-- The body run from the pieces the launch deals the subcore. -/
theorem tile_run (O : CellTallies nD τ sig (HIx 1)) (W : Waits sig (HIx 1))
    (f1 : Buf (Elt F) (aV.view.loc (thr d L))) (f3 : Buf (Elt F) (bV.view.loc (thr d L))) (f4 : Buf (Elt F) (oV.view.loc (thr d L)))
    (g0 : Buf (Elt F) (sA.view.loc (thr d L))) (g1 : Buf (Elt F) (sB.view.loc (thr d L))) (g2 : Buf (Elt F) (sO.view.loc (thr d L))) :
    (iprop(Transfers.MayWaits (thr d L) (default : HIx 1) O
        ∗ ((aK L).view.loc (thr d L) ↦[(aK L).view.set]{fullShare} f1)
        ∗ ((bK L).view.loc (thr d L) ↦[(bK L).view.set]{fullShare} f3)
        ∗ ((oK L).view.loc (thr d L) ↦[(oK L).view.set]{fullShare} f4)
        ∗ (sA.view.loc (thr d L) ↦[sA.view.set]{fullShare} g0)
        ∗ (sB.view.loc (thr d L) ↦[sB.view.set]{fullShare} g1)
        ∗ (sO.view.loc (thr d L) ↦[sO.view.set]{fullShare} g2)
        ∗ semVal (thr d L, SemLoc.dma cc0_scoped0.sem) 0 ∗ semVal (thr d L, SemLoc.dma cc0_scoped1.sem) 0
        ∗ semVal (thr d L, SemLoc.dma cc0_scoped2.sem) 0
        ∗ owes (thr d L) O W) : sProp 𝕄)
      ⊢ wp frame (wpE (defs₀ (F := F)) 𝒱₀ (thr d L) none) Set.univ
          (cc0__sc_tile_body (F := F) L aV (Memref.isWhole_whole _) bV (Memref.isWhole_whole _) oV (Memref.isWhole_whole _)
            sA (Memref.isWhole_whole _) sB (Memref.isWhole_whole _) sO (Memref.isWhole_whole _) cc0_scoped0 cc0_scoped1 cc0_scoped2)
          fun _ => iprop(((aK L).view.loc (thr d L) ↦[(aK L).view.set]{fullShare} f1)
            ∗ ((bK L).view.loc (thr d L) ↦[(bK L).view.set]{fullShare} f3)
            ∗ ((oK L).view.loc (thr d L) ↦[(oK L).view.set]{fullShare}
                (oK L).view.writes (Elt F) f4 [⟨Rect.whole S16, accAt ((aK L).view.read (Elt F) f1) ((bK L).view.read (Elt F) f3) 4⟩])
            ∗ (∃ g, sA.view.loc (thr d L) ↦[sA.view.set]{fullShare} g)
            ∗ (∃ g, sB.view.loc (thr d L) ↦[sB.view.set]{fullShare} g)
            ∗ (∃ g, sO.view.loc (thr d L) ↦[sO.view.set]{fullShare} g)
            ∗ semVal (thr d L, SemLoc.dma cc0_scoped0.sem) 0 ∗ semVal (thr d L, SemLoc.dma cc0_scoped1.sem) 0
            ∗ semVal (thr d L, SemLoc.dma cc0_scoped2.sem) 0
            ∗ ∃ W', owes (thr d L) O W') := by
  iintro ⟨#Hmw, HI, HX, HO, HA, HB, HC, Hc0, Hc1, Hc2, HW⟩
  rw [cc0__sc_tile_body_eq_skeleton]
  sl_unfold [cc0__sc_tile_body_skel]
  sl_exec
  rw [wp_bind]
  ihave HA := (Entails.of_eq (pts_A (F := F) d L _)) $$ HA
  ihave HB := (Entails.of_eq (pts_B (F := F) d L _)) $$ HB
  iapply (Runs.step d L (loop_fetched (d := d) (L := L) (tile_run.sl.dma0 d L f1) (tile_run.sl.dma0_1 d L f3)) _) $$ [HA HB HO HC Hc2 HI Hc0 HX Hc1 HW]
  isplitl [HA]
  · iexact HA
  isplitl [HB]
  · iexact HB
  iintro ⟨HA, HB⟩
  ihave HA := (Entails.of_eq (pts_A (F := F) d L _).symm) $$ HA
  ihave HB := (Entails.of_eq (pts_B (F := F) d L _).symm) $$ HB
  sl_exec
  sl_step
  have e : tile_run.sl.dma2 d L f1 f3 g2 = accAt ((aK L).view.read (Elt F) f1) ((bK L).view.read (Elt F) f3) 4 := by
    unfold tile_run.sl.dma2 tile_run.sl.HC_1
    funext y
    have h := View.read_writes_cons_emb sO.view g2 (Rect.unit (s := S16) ![0] S16.size inb_S16_S16_0) (accAt ((aK L).view.read (Elt F) f1) ((bK L).view.read (Elt F) f3) 4) [] y
    have hy : (Rect.unit (s := S16) ![0] S16.size inb_S16_S16_0).emb y = y := by
      funext a; apply Fin.ext
      rw [Subsingleton.elim a 0]
      show 0 + 1 * (y 0).val = (y 0).val
      omega
    rw [hy] at h
    exact h
  rw [e]
  sl_close

end Tile

end Cert.Proof.Sc

end
-- ==== Proof.Call.lean ====
/-
  The SparseCore call as one step: what it is handed and hands back, each vector subcore's task, and how the call's
  share is cut.
-/
module

public import proofs.«01_k».proof.Proof.Tile

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (ownBufs ownSems0 ownCells ownRefs mem_ownCells)

variable {F : FTy → Type} [FloatOps F] [∀ e, Nonempty (Elt F e)]

local notation "𝕄" => MT nD τ sig (HIx 1) (Elt F) ℕ UU ℕ

/-! ## The arrays and their parts -/

abbrev aLoc (d : Dev nD) : Loc nD τ sig := (SparseCore.T d).loc main_v1
abbrev bLoc (d : Dev nD) : Loc nD τ sig := (SparseCore.T d).loc main_v3
abbrev oLoc (d : Dev nD) : Loc nD τ sig := (SparseCore.T d).loc main_v4

theorem nCore_zero : (K (F := F)).nCore 0 = 2 := rfl
theorem nSub_zero : (K (F := F)).nSub 0 = 16 := rfl

/-- The worker that vector subcore `i` of SparseCore `c` is. -/
def wid (c : Fin 2) (i : Fin 16) : Fin 32 := ⟨2 * i.val + c.val, by have := c.isLt; have := i.isLt; omega⟩

theorem adiv : 32 ∣ S104448.size 0 := by decide
theorem odiv : 32 ∣ S32x16.size 0 := by decide
/-- Worker `w`'s 3264 words of a flattened operand, -/
abbrev aRow (w : Fin 32) : Rect S104448 := Rect.part (s := S104448) (a₀ := 0) adiv w
abbrev aSet (w : Fin 32) : Finset S104448.Idx := (aRow w).set
/-- and its row of the partial sums. -/
abbrev oRow (w : Fin 32) : Rect S32x16 := Rect.part (s := S32x16) (a₀ := 0) odiv w
abbrev oSet (w : Fin 32) : Finset S32x16.Idx := (oRow w).set

/-- Worker `w`'s words, -/
def chunk (X : Vec F S104448 .f32) (w : Fin 32) : Vec F S3264 .f32 := fun y =>
  X fun a => ⟨3264 * w.val + (y 0).val, by
    rw [Subsingleton.elim a 0]
    have h : (y 0).val < 3264 := (y 0).isLt
    have := w.isLt
    show _ < 104448
    omega⟩
/-- and the partial sums all the workers leave, a lane a place. -/
def outY (X1 X3 : Vec F S104448 .f32) : Vec F S32x16 .f32 := fun z =>
  accAt (chunk X1 (z 0)) (chunk X3 (z 0)) 4 fun a => ⟨(z 1).val, by rw [Subsingleton.elim a 0]; exact (z 1).isLt⟩

/-! ## What the call is handed and hands back -/

section Pay

variable (X1 X3 : Dev nD → Vec F S104448 .f32) (Z : Dev nD → Vec F S32x16 .f32)

abbrev tileIn (d : Dev nD) (w : Fin 32) : sProp 𝕄 :=
  iprop((aLoc d ↦[aSet w]{fullShare} X1 d) ∗ (bLoc d ↦[aSet w]{fullShare} X3 d) ∗ (oLoc d ↦[oSet w]{fullShare} Z d))
abbrev tileOut (d : Dev nD) (w : Fin 32) : sProp 𝕄 :=
  iprop((aLoc d ↦[aSet w]{fullShare} X1 d) ∗ (bLoc d ↦[aSet w]{fullShare} X3 d) ∗ (oLoc d ↦[oSet w]{fullShare} outY (X1 d) (X3 d)))

/-- Each vector subcore takes its words of the two flattened operands and its row of the partial sums, and brings them
    back, the row at its partial sums; a SparseCore's share is its subcores'. -/
def P : (K (F := F)).Pay (nD := nD) (Val := Elt F) (Name := ℕ) (U := UU) where
  st := fun q d c => match q with
    | 0 => bigSep Finset.univ fun i : Fin ((K (F := F)).nSub 0) => tileIn X1 X3 Z d (wid (Fin.cast nCore_zero c) (Fin.cast nSub_zero i))
  dn := fun q d c => match q with
    | 0 => bigSep Finset.univ fun i : Fin ((K (F := F)).nSub 0) => tileOut X1 X3 d (wid (Fin.cast nCore_zero c) (Fin.cast nSub_zero i))
  go := fun q d c i => match q with | 0 => tileIn X1 X3 Z d (wid (Fin.cast nCore_zero c) (Fin.cast nSub_zero i))
  td := fun q d c i => match q with | 0 => tileOut X1 X3 d (wid (Fin.cast nCore_zero c) (Fin.cast nSub_zero i))
  x := fun _ _ => iprop(emp)

instance P_storable : (P (F := F) X1 X3 Z).IsStorable where
  st q d c := match q with
    | 0 => (inferInstance : BI.Storable (upEmb : UEmb _ 𝕄)
        (bigSep Finset.univ fun i : Fin ((K (F := F)).nSub 0) => tileIn X1 X3 Z d (wid (Fin.cast nCore_zero c) (Fin.cast nSub_zero i))))
  dn q d c := match q with
    | 0 => (inferInstance : BI.Storable (upEmb : UEmb _ 𝕄)
        (bigSep Finset.univ fun i : Fin ((K (F := F)).nSub 0) => tileOut X1 X3 d (wid (Fin.cast nCore_zero c) (Fin.cast nSub_zero i))))
  go q d c i := match q with
    | 0 => (inferInstance : BI.Storable (upEmb : UEmb _ 𝕄) (tileIn X1 X3 Z d (wid (Fin.cast nCore_zero c) (Fin.cast nSub_zero i))))
  td q d c i := match q with
    | 0 => (inferInstance : BI.Storable (upEmb : UEmb _ 𝕄) (tileOut X1 X3 d (wid (Fin.cast nCore_zero c) (Fin.cast nSub_zero i))))

/-- A SparseCore's share is its subcores', on the way out and back. -/
theorem vecSplit : (K (F := F)).VecSplit' (P X1 X3 Z) 0 := by
  intro d c
  show (bigSep Finset.univ fun i : Fin ((K (F := F)).nSub 0) => tileIn X1 X3 Z d (wid (Fin.cast nCore_zero c) (Fin.cast nSub_zero i)))
    ⊢ |={Set.univ}=> iprop((bigSep Finset.univ fun i : Fin ((K (F := F)).nSub 0) => tileIn X1 X3 Z d (wid (Fin.cast nCore_zero c) (Fin.cast nSub_zero i)))
      ∗ ((bigSep Finset.univ fun i : Fin ((K (F := F)).nSub 0) => tileOut X1 X3 d (wid (Fin.cast nCore_zero c) (Fin.cast nSub_zero i)))
        -∗ (bigSep Finset.univ fun i : Fin ((K (F := F)).nSub 0) => tileOut X1 X3 d (wid (Fin.cast nCore_zero c) (Fin.cast nSub_zero i)))))
  iintro H; imodintro
  isplitl [H]; · iexact H
  iintro H; iexact H

end Pay

/-! ## The task -/

section Task

variable (d : Dev nD) (L : grid0.Coords)

theorem bound_zero : grid0.bound 0 = 2 := rfl
theorem bound_one : grid0.bound 1 = 16 := rfl
abbrev wL (L : grid0.Coords) : Fin 32 := wid (Fin.cast bound_zero (L 0)) (Fin.cast bound_one (L 1))

theorem rK_eq : rK L = aRow (wL L) := by
  unfold rK aRow Rect.part Rect.block
  congr 1 <;> funext a
  · rw [k0_off1_eq, Subsingleton.elim a 0]
    show 6528 * (L 1).val + 3264 * (L 0).val = (2 * (L 1).val + (L 0).val) * 3264
    omega
  · rw [Subsingleton.elim a 0]
    simp [Shape.partSize]
theorem rO_eq : rO L = oRow (wL L) := by
  unfold rO oRow Rect.part Rect.block
  congr 1 <;> funext a
  · rw [k0_off2_eq]
    match a with
    | 0 => simp [Shape.partIx, Shape.partSize, wid]; rfl
    | 1 => simp [Shape.partIx, Shape.partSize]
  · match a with
    | 0 => simp [Shape.partSize]
    | 1 => simp [Shape.partSize]

theorem set_aK : (aK L).view.set = aSet (wL L) := by
  show ((View.whole (main_v1_scv : Ref sig .scVector)).slice (rK L)).set = _
  rw [View.set_slice, rK_eq]; exact Finset.map_refl
theorem set_bK : (bK L).view.set = aSet (wL L) := by
  show ((View.whole (main_v3_scv : Ref sig .scVector)).slice (rK L)).set = _
  rw [View.set_slice, rK_eq]; exact Finset.map_refl
theorem set_oK : (oK L).view.set = oSet (wL L) := by
  show (((View.whole (main_v4_scv : Ref sig .scVector)).slice (rO L)).reshape S16 squeezes_S1x16_S16.numel_eq).set = _
  rw [View.set_reshape, View.set_slice]
  exact (congrArg (Finset.map _) (congrArg (fun r : Rect S32x16 => r.set) (rO_eq L))).trans Finset.map_refl

/-- What a fetch reads is the worker's words. -/
theorem read_aK (X : Vec F S104448 .f32) : (aK L).view.read (Elt F) X = chunk X (wL L) := by
  funext y
  refine (View.read_apply _ _).trans ((cast_eq _ _).trans (congrArg X ?_))
  show (rK L).emb y = _
  funext (a : Fin 1); apply Fin.ext
  rw [Subsingleton.elim a 0]
  show (k0_off1 L) 0 + 1 * (y 0).val = 3264 * (2 * (L 1).val + (L 0).val) + (y 0).val
  rw [k0_off1_eq]
  show 6528 * (L 1).val + 3264 * (L 0).val + 1 * (y 0).val = _
  omega
theorem read_bK (X : Vec F S104448 .f32) : (bK L).view.read (Elt F) X = chunk X (wL L) := by
  funext y
  refine (View.read_apply _ _).trans ((cast_eq _ _).trans (congrArg X ?_))
  show (rK L).emb y = _
  funext (a : Fin 1); apply Fin.ext
  rw [Subsingleton.elim a 0]
  show (k0_off1 L) 0 + 1 * (y 0).val = 3264 * (2 * (L 1).val + (L 0).val) + (y 0).val
  rw [k0_off1_eq]
  show 6528 * (L 1).val + 3264 * (L 0).val + 1 * (y 0).val = _
  omega

/-- Place `y` of worker `w`'s row. -/
def outIx (w : Fin 32) (y : S16.Idx) : S32x16.Idx := fun | 0 => w | 1 => ⟨(y 0).val, (y 0).isLt⟩
theorem emb_oK (y : S16.Idx) : (oK L).view.emb y = outIx (wL L) y := by
  have e : Shape.reshapeEquiv squeezes_S1x16_S16.numel_eq y = (fun | 0 => ⟨0, by decide⟩ | 1 => ⟨(y 0).val, (y 0).isLt⟩ : S1x16.Idx) := by
    refine Shape.reshapeEquiv_eq_of_rowMajor _ ?_
    rw [Shape.rowMajor_val_two, Shape.rowMajor_val_one]
    show 0 * 16 + (y 0).val = (y 0).val
    omega
  show (rO L).emb (Shape.reshapeEquiv squeezes_S1x16_S16.numel_eq y) = _
  rw [e]
  funext a; apply Fin.ext
  match a with
  | 0 =>
    show (k0_off2 L) 0 + 1 * 0 = 2 * (L 1).val + (L 0).val
    rw [k0_off2_eq]; rfl
  | 1 =>
    show (k0_off2 L) 1 + 1 * (y 0).val = (y 0).val
    rw [k0_off2_eq]
    show 0 + 1 * (y 0).val = (y 0).val
    omega

/-- The partial sums at place `y` of worker `w`'s row are the worker's accumulator at `y`. -/
theorem outY_outIx (X1 X3 : Vec F S104448 .f32) (w : Fin 32) (y : S16.Idx) :
    outY X1 X3 (outIx w y) = accAt (chunk X1 w) (chunk X3 w) 4 y := by
  refine congrArg (accAt (chunk X1 w) (chunk X3 w) 4) ?_
  funext a; apply Fin.ext
  rw [Subsingleton.elim a 0]
  rfl

/-- What a row written whole holds at place `y`. -/
theorem writes_oK (z : Vec F S32x16 .f32) (x : Vec F S16 .f32) (y : S16.Idx) :
    (oK L).view.writes (Elt F) z [⟨Rect.whole S16, x⟩] ((oK L).view.emb y) = x y := by
  have h := congrFun (View.read_writes_whole (oK L).view z x) y
  rw [View.read_apply] at h
  exact h

/-- What the write-out leaves on the worker's row is its row of the partial sums. -/
theorem pts_out (X1 X3 : Vec F S104448 .f32) (z : Vec F S32x16 .f32) :
    ((oK L).view.loc (thr d L) ↦[(oK L).view.set]{fullShare}
        (oK L).view.writes (Elt F) z [⟨Rect.whole S16, accAt ((aK L).view.read (Elt F) X1) ((bK L).view.read (Elt F) X3) 4⟩] : sProp 𝕄)
      = oLoc d ↦[oSet (wL L)]{fullShare} outY X1 X3 := by
  rw [← set_oK]
  refine pointsTo_congr fun i hi => ?_
  obtain ⟨y, -, rfl⟩ := Finset.mem_map.mp hi
  rw [writes_oK, read_aK, read_bK, emb_oK, outY_outIx]

theorem pts_aK (f : Vec F S104448 .f32) :
    ((aK L).view.loc (thr d L) ↦[(aK L).view.set]{fullShare} f : sProp 𝕄) = aLoc d ↦[aSet (wL L)]{fullShare} f := by rw [set_aK]
theorem pts_bK (f : Vec F S104448 .f32) :
    ((bK L).view.loc (thr d L) ↦[(bK L).view.set]{fullShare} f : sProp 𝕄) = bLoc d ↦[aSet (wL L)]{fullShare} f := by rw [set_bK]
theorem pts_oK (f : Vec F S32x16 .f32) :
    ((oK L).view.loc (thr d L) ↦[(oK L).view.set]{fullShare} f : sProp 𝕄) = oLoc d ↦[oSet (wL L)]{fullShare} f := by rw [set_oK]
theorem pts_sA (f : Buf (Elt F) ((thr d L).loc cc0_scratch0)) :
    (sA.view.loc (thr d L) ↦[sA.view.set]{fullShare} f : sProp 𝕄) = (thr d L).loc cc0_scratch0 ↦{fullShare} f := by
  simp only [Memref.view_whole, View.set_whole]
theorem pts_sB (f : Buf (Elt F) ((thr d L).loc cc0_scratch1)) :
    (sB.view.loc (thr d L) ↦[sB.view.set]{fullShare} f : sProp 𝕄) = (thr d L).loc cc0_scratch1 ↦{fullShare} f := by
  simp only [Memref.view_whole, View.set_whole]
theorem pts_sO (f : Buf (Elt F) ((thr d L).loc cc0_scratch2)) :
    (sO.view.loc (thr d L) ↦[sO.view.set]{fullShare} f : sProp 𝕄) = (thr d L).loc cc0_scratch2 ↦{fullShare} f := by
  simp only [Memref.view_whole, View.set_whole]

/-- The cells of the subcore's three transfers. -/
abbrev cell0 : GSem nD τ sig := (thr d L, SemLoc.dma cc0_scoped0.sem)
abbrev cell1 : GSem nD τ sig := (thr d L, SemLoc.dma cc0_scoped1.sem)
abbrev cell2 : GSem nD τ sig := (thr d L, SemLoc.dma cc0_scoped2.sem)

/-- They are among the subcore's own: they are them, at zero, and the rest. -/
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  have h0 : cell0 d L ∈ ownCells (thr d L) :=
    mem_ownCells.mpr ⟨rfl, show (SemLoc.dma cc0_scoped0.sem : SemLoc sig).isScoped .scVector = true by decide⟩
  have h1 : cell1 d L ∈ ownCells (thr d L) :=
    mem_ownCells.mpr ⟨rfl, show (SemLoc.dma cc0_scoped1.sem : SemLoc sig).isScoped .scVector = true by decide⟩
  have h2 : cell2 d L ∈ ownCells (thr d L) :=
    mem_ownCells.mpr ⟨rfl, show (SemLoc.dma cc0_scoped2.sem : SemLoc sig).isScoped .scVector = true by decide⟩
  have n10 : cell1 d L ≠ cell0 d L :=
    fun e => absurd (congrArg Prod.snd e) (show (SemLoc.dma cc0_scoped1.sem : SemLoc sig) ≠ SemLoc.dma cc0_scoped0.sem by decide)
  have n20 : cell2 d L ≠ cell0 d L :=
    fun e => absurd (congrArg Prod.snd e) (show (SemLoc.dma cc0_scoped2.sem : SemLoc sig) ≠ SemLoc.dma cc0_scoped0.sem by decide)
  have n21 : cell2 d L ≠ cell1 d L :=
    fun e => absurd (congrArg Prod.snd e) (show (SemLoc.dma cc0_scoped2.sem : SemLoc sig) ≠ SemLoc.dma cc0_scoped1.sem by decide)
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

/-- The three scratches are among the subcore's own buffers: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own (r : Ref sig .scVector) (h : ((Proc.scVector (cV L) (jV L)).devRef r).owner = .proc (Proc.scVector (cV L) (jV L))) :
      (Proc.scVector (cV L) (jV L)).devRef r ∈ ownRefs (τ := τ) (sig := sig) (.scVector (cV L) (jV L)) :=
    SparseCore.Cfg.mem_ownRefs_of_owner (p := Proc.scVector (cV L) (jV L)) h
  have ne {r r' : Ref sig .scVector} (h : r ≠ r') : (Proc.scVector (cV L) (jV L)).devRef r ≠ (Proc.scVector (cV L) (jV L)).devRef r' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]

/-- The task of a vector subcore, from what the call deals it to what it hands back. -/
theorem tile_body (X1 X3 : Dev nD → Vec F S104448 .f32) (Z : Dev nD → Vec F S32x16 .f32) (O : CellTallies nD τ sig (HIx 1)) (W : Waits sig (HIx 1))
    (hO : ∀ g, O g none = 0) :
    iprop(levAts (K (F := F)).L (K (F := F)).lev ∗ emp ∗ tileIn X1 X3 Z d (wL L)
        ∗ scopedBufs (thr d L) ∗ scopedSems0 (thr d L) ∗ owes (thr d L) O W)
      ⊢ wp frame (wpE (defs₀ (F := F)) 𝒱₀ (thr d L) none) Set.univ
          (cc0__sc_tile_body (F := F) L aV (Memref.isWhole_whole _) bV (Memref.isWhole_whole _) oV (Memref.isWhole_whole _)
            sA (Memref.isWhole_whole _) sB (Memref.isWhole_whole _) sO (Memref.isWhole_whole _) cc0_scoped0 cc0_scoped1 cc0_scoped2)
          fun _ => iprop(tileOut X1 X3 d (wL L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, ⟨HI, HX, HO⟩, ⟨⟨%g0, HA⟩, ⟨%g1, HB⟩, ⟨%g2, HC⟩, Hbufs⟩, ⟨Hc0, Hc1, Hc2, Hsems⟩, HW⟩
  ihave Hmw := (show levAts (K (F := F)).L (K (F := F)).lev ⊢ Transfers.MayWaits (thr d L) (default : HIx 1) O from
    (K (F := F)).mayWaits_none (thr := thr d L) hO) $$ Hlv
  ihave HI := (Entails.of_eq (pts_aK (F := F) d L _).symm) $$ HI
  ihave HX := (Entails.of_eq (pts_bK (F := F) d L _).symm) $$ HX
  ihave HO := (Entails.of_eq (pts_oK (F := F) d L _).symm) $$ HO
  ihave HA := (Entails.of_eq (pts_sA (F := F) d L _).symm) $$ HA
  ihave HB := (Entails.of_eq (pts_sB (F := F) d L _).symm) $$ HB
  ihave HC := (Entails.of_eq (pts_sO (F := F) d L _).symm) $$ HC
  iapply (wp_wand_r Idealize.ShloMosaic.frame (wpE (defs₀ (F := F)) 𝒱₀ (thr d L) none) Set.univ)
  isplitl [HI HX HO HA HB HC Hc0 Hc1 Hc2 HW]
  · iapply (tile_run d L O W (X1 d) (X3 d) (Z d) g0 g1 g2)
    isplitr; · iexact Hmw
    isplitl [HI]; · iexact HI
    isplitl [HX]; · iexact HX
    isplitl [HO]; · iexact HO
    isplitl [HA]; · iexact HA
    isplitl [HB]; · iexact HB
    isplitl [HC]; · iexact HC
    isplitl [Hc0]; · iexact Hc0
    isplitl [Hc1]; · iexact Hc1
    isplitl [Hc2]; · iexact Hc2
    iexact HW
  iintro %_ ⟨HI, HX, HO, ⟨%f0, HA⟩, ⟨%f1, HB⟩, ⟨%f2, HC⟩, Hc0, Hc1, Hc2, ⟨%W', HW⟩⟩
  isplitl [HI HX HO]
  · isplitl [HI]; · iapply (Entails.of_eq (pts_aK (F := F) d L _)); iexact HI
    isplitl [HX]; · iapply (Entails.of_eq (pts_bK (F := F) d L _)); iexact HX
    iapply (Entails.of_eq (pts_out (F := F) d L (X1 d) (X3 d) (Z d))); iexact HO
  isplitl [HA HB HC Hbufs]
  · isplitl [HA]; · iexists _; iapply (Entails.of_eq (pts_sA (F := F) d L _)); iexact HA
    isplitl [HB]; · iexists _; iapply (Entails.of_eq (pts_sB (F := F) d L _)); iexact HB
    isplitl [HC]; · iexists _; iapply (Entails.of_eq (pts_sO (F := F) d L _)); iexact HC
    iexact Hbufs
  isplitl [Hc0 Hc1 Hc2 Hsems]
  · isplitl [Hc0]; · iexact Hc0
    isplitl [Hc1]; · iexact Hc1
    isplitl [Hc2]; · iexact Hc2
    iexact Hsems
  iexists W'; isplitr
  · ipureintro; intro p _
    rcases p.2 with _ | q
    · exact .inr (.inl rfl)
    · exact .inr (.inr (congrArg some (Subsingleton.elim q 0)))
  · iexact HW

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_tile_body (F := F) (coordsV c s)
          aV (Memref.isWhole_whole _) bV (Memref.isWhole_whole _) oV (Memref.isWhole_whole _)
          sA (Memref.isWhole_whole _) sB (Memref.isWhole_whole _) sO (Memref.isWhole_whole _) cc0_scoped0 cc0_scoped1 cc0_scoped2) ⟨⟩ c s := rfl

/-- The obligation the call leaves: every task runs. -/
theorem tileObl (X1 X3 : Dev nD → Vec F S104448 .f32) (Z : Dev nD → Vec F S32x16 .f32) :
    (K (F := F)).TileObl (D (F := F)) 𝒱 (P X1 X3 Z) v₀ 0 := by
  intro d c i O W hO _ _
  simp only [show (P X1 X3 Z).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) X1 X3 Z O W hO

end Task

end Cert.Proof.Sc

end
-- ==== Proof.Split.lean ====
/-
  The whole arrays of the SparseCore call cut into the workers' parts, and the parts joined.
-/
module

public import proofs.«01_k».proof.Proof.Call

@[expose] public section

noncomputable section

namespace Cert.Proof.Sc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-- The workers are the pairs of a SparseCore and a subcore. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    have := p.1.isLt
    refine Prod.ext (Fin.ext ?_) (Fin.ext ?_)
    · show (2 * p.2.val + p.1.val) % 2 = p.1.val
      omega
    · show (2 * p.2.val + p.1.val) / 2 = p.2.val
      omega
  right_inv w := Fin.ext (by show 2 * (w.val / 2) + w.val % 2 = w.val; omega)

/-- A family over the workers is one over the SparseCores of ones over their subcores. -/
theorem bigSep_workers (Φ : Fin 32 → sProp 𝕄) :
    bigSep Finset.univ Φ = bigSep Finset.univ fun c : Fin ((K (F := F)).nCore 0) =>
      bigSep Finset.univ fun i : Fin ((K (F := F)).nSub 0) => Φ (wid (Fin.cast nCore_zero c) (Fin.cast nSub_zero i)) := by
  rw [bigSep_univ_equiv widEquiv, bigSep_univ_prod]
  rfl

/-- Three families over the workers are one of triples. -/
theorem sep_workers (Φ Ψ Χ : Fin 32 → sProp 𝕄) :
    iprop(bigSep Finset.univ Φ ∗ bigSep Finset.univ Ψ ∗ bigSep Finset.univ Χ) = bigSep Finset.univ fun w => iprop(Φ w ∗ Ψ w ∗ Χ w) :=
  ((bigSep_sep Finset.univ Φ (fun w => iprop(Ψ w ∗ Χ w))).trans
    (congrArg (fun z => iprop(bigSep Finset.univ Φ ∗ z)) (bigSep_sep Finset.univ Ψ Χ))).symm

theorem a_whole (d : Dev nD) (f : Buf (Elt F) (aLoc d)) :
    (aLoc d ↦{fullShare} f : sProp 𝕄) = bigSep Finset.univ fun w : Fin 32 => aLoc d ↦[aSet w]{fullShare} f := by
  rw [← pointsTo_biUnion Finset.univ (ℓ := aLoc d) aSet fun i _ j _ h => Rect.part_disjoint adiv h, Rect.biUnion_part adiv]; try rfl
theorem b_whole (d : Dev nD) (f : Buf (Elt F) (bLoc d)) :
    (bLoc d ↦{fullShare} f : sProp 𝕄) = bigSep Finset.univ fun w : Fin 32 => bLoc d ↦[aSet w]{fullShare} f := by
  rw [← pointsTo_biUnion Finset.univ (ℓ := bLoc d) aSet fun i _ j _ h => Rect.part_disjoint adiv h, Rect.biUnion_part adiv]; try rfl
theorem o_whole (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun i _ j _ h => Rect.part_disjoint odiv h, Rect.biUnion_part odiv]; try rfl

variable (X1 X3 : Dev nD → Vec F S104448 .f32) (Z : Dev nD → Vec F S32x16 .f32)

/-- What the call is handed is its three arrays whole, -/
theorem st_eq (d : Dev nD) :
    (bigSep Finset.univ fun c : Fin ((K (F := F)).nCore 0) => (P X1 X3 Z).st 0 d c : sProp 𝕄)
      = iprop((aLoc d ↦{fullShare} X1 d) ∗ (bLoc d ↦{fullShare} X3 d) ∗ (oLoc d ↦{fullShare} Z d)) := by
  rw [a_whole, b_whole, o_whole, sep_workers]
  exact (bigSep_workers (F := F) (fun w => tileIn X1 X3 Z d w)).symm
/-- and so is what it hands back, the third at the partial sums. -/
theorem dn_eq (d : Dev nD) :
    (bigSep Finset.univ fun c : Fin ((K (F := F)).nCore 0) => (P X1 X3 Z).dn 0 d c : sProp 𝕄)
      = iprop((aLoc d ↦{fullShare} X1 d) ∗ (bLoc d ↦{fullShare} X3 d) ∗ (oLoc d ↦{fullShare} outY (X1 d) (X3 d))) := by
  rw [a_whole, b_whole, o_whole, sep_workers]
  exact (bigSep_workers (F := F) (fun w => tileOut X1 X3 d w)).symm

end Cert.Proof.Sc

end
-- ==== Proof.Main.lean ====
/-
  @main on the TensorCore: the two slices flattened, the SparseCore call, the TensorCore call, the sum and the division;
  and the whole program's run from any launch memory.
-/
module

public import proofs.«01_k».proof.Proof.Region
public import proofs.«01_k».proof.Proof.Split

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F] [∀ e, Nonempty (Elt F e)]

local notation "𝕄" => MT nD τ sig (HIx 1) (Elt F) ℕ UU ℕ

/-! ## The operations around the calls -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev c0' : DevRef τ sig := Proc.devRef .tc (main_cst : Ref sig .tc)
abbrev c1' : DevRef τ sig := Proc.devRef .tc (main_cst_0 : Ref sig .tc)

abbrev opSl0 : HloOp τ sig (Elt F) := StableHlo.unary main_arg0 main_v0 ((extractStridedSlice S2048x51 ![0, 0] · slices_S16384x51_S2048x51_0_0) : (⟨S16384x51, .f32⟩ : BufTy).Contents (Elt F) → (⟨S2048x51, .f32⟩ : BufTy).Contents (Elt F))
abbrev opFl0 : HloOp τ sig (Elt F) := StableHlo.reshape main_v0 main_v1 (rfl : (.f32 : EltTy) = .f32) shapeCasts_S2048x51_S104448
abbrev opSl1 : HloOp τ sig (Elt F) := StableHlo.unary main_arg1 main_v2 ((extractStridedSlice S2048x51 ![0, 0] · slices_S16384x51_S2048x51_0_0) : (⟨S16384x51, .f32⟩ : BufTy).Contents (Elt F) → (⟨S2048x51, .f32⟩ : BufTy).Contents (Elt F))
abbrev opFl1 : HloOp τ sig (Elt F) := StableHlo.reshape main_v2 main_v3 (rfl : (.f32 : EltTy) = .f32) shapeCasts_S2048x51_S104448
abbrev opZero : HloOp τ sig (Elt F) := StableHlo.nullary main_cst (constant S_ .f32 0x00000000#32)
abbrev opRed : HloOp τ sig (Elt F) := StableHlo.binary main_v4 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opCell : HloOp τ sig (Elt F) := StableHlo.reshape main_v5 main_v7 (rfl : (.f32 : EltTy) = .f32) shapeCasts_S1x1_S_
abbrev opAdd : HloOp τ sig (Elt F) := StableHlo.binary main_v6 main_v7 main_v8 (addf : (⟨S_, .f32⟩ : BufTy).Contents (Elt F) → (⟨S_, .f32⟩ : BufTy).Contents (Elt F) → (⟨S_, .f32⟩ : BufTy).Contents (Elt F))
abbrev opCount : HloOp τ sig (Elt F) := StableHlo.nullary main_cst_0 (constant S_ .f32 0x46800000#32)
abbrev opDiv : HloOp τ sig (Elt F) := StableHlo.binary main_v8 main_cst_0 main_v9 (Host.divf : (⟨S_, .f32⟩ : BufTy).Contents (Elt F) → (⟨S_, .f32⟩ : BufTy).Contents (Elt F) → (⟨S_, .f32⟩ : BufTy).Contents (Elt F))

theorem hSl0 : (opSl0 (F := F)).bufs ⊆ U := show ({a0', v0'} : Finset (DevRef τ sig)) ⊆ U by decide
theorem hFl0 : (opFl0 (F := F)).bufs ⊆ U := show ({v0', v1'} : Finset (DevRef τ sig)) ⊆ U by decide
theorem hSl1 : (opSl1 (F := F)).bufs ⊆ U := show ({a1', v2'} : Finset (DevRef τ sig)) ⊆ U by decide
theorem hFl1 : (opFl1 (F := F)).bufs ⊆ U := show ({v2', v3'} : Finset (DevRef τ sig)) ⊆ U by decide
theorem hZero : (opZero (F := F)).bufs ⊆ U := show ({c0'} : Finset (DevRef τ sig)) ⊆ U by decide
theorem hRed : (opRed (F := F)).bufs ⊆ U := show ({v4', c0', v6'} : Finset (DevRef τ sig)) ⊆ U by decide
theorem hCell : (opCell (F := F)).bufs ⊆ U := show ({v5', v7'} : Finset (DevRef τ sig)) ⊆ U by decide
theorem hAdd : (opAdd (F := F)).bufs ⊆ U := show ({v6', v7', v8'} : Finset (DevRef τ sig)) ⊆ U by decide
theorem hCount : (opCount (F := F)).bufs ⊆ U := show ({c1'} : Finset (DevRef τ sig)) ⊆ U by decide
theorem hDiv : (opDiv (F := F)).bufs ⊆ U := show ({v8', c1', v9'} : Finset (DevRef τ sig)) ⊆ U by decide

/-! ## The arrays' contents along @main -/

section Run

variable (m : (ℓ : Loc nD τ sig) → Buf (Elt F) ℓ) (ρ : Dev nD → PrngReg)

/-- At launch, -/
def V0 (d : Dev nD) : Valuation τ sig (Elt F) := fun b => m (d, b)
/-- before the SparseCore call, -/
def V1 (d : Dev nD) : Valuation τ sig (Elt F) :=
  (opFl1 (F := F)).result ((opSl1 (F := F)).result ((opFl0 (F := F)).result ((opSl0 (F := F)).result (V0 m d))))
abbrev X1 (d : Dev nD) : Vec F S104448 .f32 := V1 m d v1'
abbrev X3 (d : Dev nD) : Vec F S104448 .f32 := V1 m d v3'
abbrev Z4 (d : Dev nD) : Vec F S32x16 .f32 := V1 m d v4'
/-- after it, -/
def V2 (d : Dev nD) : Valuation τ sig (Elt F) := Function.update (V1 m d) v4' (outY (X1 m d) (X3 m d))
/-- after the TensorCore call, -/
def V3 (d : Dev nD) : Valuation τ sig (Elt F) := left (V2 m) d
/-- and at the end. -/
def V4 (d : Dev nD) : Valuation τ sig (Elt F) :=
  (opDiv (F := F)).result ((opCount (F := F)).result ((opAdd (F := F)).result ((opCell (F := F)).result
    ((opRed (F := F)).result ((opZero (F := F)).result (V3 m d))))))

theorem V2_v1 (d : Dev nD) : V2 m d v1' = X1 m d := Function.update_of_ne (show v1' ≠ v4' by decide) _ _
theorem V2_v3 (d : Dev nD) : V2 m d v3' = X3 m d := Function.update_of_ne (show v3' ≠ v4' by decide) _ _
theorem V2_v4 (d : Dev nD) : V2 m d v4' = outY (X1 m d) (X3 m d) := Function.update_self _ _ _

theorem V1_arg {b : DevRef τ sig} (d : Dev nD) (h : b ∉ ({v0', v1', v2', v3'} : Finset (DevRef τ sig))) : V1 m d b = m (d, b) := by
  unfold V1
  simp only [Finset.mem_insert, Finset.mem_singleton, not_or] at h
  rw [(opFl1 (F := F)).result_of_not_mem _ (show b ∉ ({v3'} : Finset (DevRef τ sig)) by simpa using h.2.2.2),
    (opSl1 (F := F)).result_of_not_mem _ (show b ∉ ({v2'} : Finset (DevRef τ sig)) by simpa using h.2.2.1),
    (opFl0 (F := F)).result_of_not_mem _ (show b ∉ ({v1'} : Finset (DevRef τ sig)) by simpa using h.2.1),
    (opSl0 (F := F)).result_of_not_mem _ (show b ∉ ({v0'} : Finset (DevRef τ sig)) by simpa using h.1)]
  rfl

theorem V4_off {b : DevRef τ sig} (d : Dev nD) (h : b ∉ ({c0', v6', v7', v8', c1', v9'} : Finset (DevRef τ sig))) : V4 m d b = V3 m d b := by
  unfold V4
  simp only [Finset.mem_insert, Finset.mem_singleton, not_or] at h
  rw [(opDiv (F := F)).result_of_not_mem _ (show b ∉ ({v9'} : Finset (DevRef τ sig)) by simpa using h.2.2.2.2.2),
    (opCount (F := F)).result_of_not_mem _ (show b ∉ ({c1'} : Finset (DevRef τ sig)) by simpa using h.2.2.2.2.1),
    (opAdd (F := F)).result_of_not_mem _ (show b ∉ ({v8'} : Finset (DevRef τ sig)) by simpa using h.2.2.2.1),
    (opCell (F := F)).result_of_not_mem _ (show b ∉ ({v7'} : Finset (DevRef τ sig)) by simpa using h.2.2.1),
    (opRed (F := F)).result_of_not_mem _ (show b ∉ ({v6'} : Finset (DevRef τ sig)) by simpa using h.2.1),
    (opZero (F := F)).result_of_not_mem _ (show b ∉ ({c0'} : Finset (DevRef τ sig)) by simpa using h.1)]

/-- The TensorCore call leaves an array other than the cell as it was. -/
theorem V3_keeps (d : Dev nD) (r : Ref sig .tc) (h : ∀ w, Pipeline.arrRef spec1 w = r → (cfg1.win w).isOut = false) :
    V3 m d (Proc.devRef .tc r) = V2 m d (Proc.devRef .tc r) := by
  unfold V3 left
  exact Pipeline.afterRegion_keeps (dats (V2 m) 0 d) (V2 m d) launch1.win.arr_inj (fun w => dats_A (V2 m) d w) r h

theorem V4_a0 (d : Dev nD) : V4 m d a0' = m (d, a0') := by
  rw [V4_off m d (by decide), V3_keeps m d main_arg0 (by decide)]
  exact (Function.update_of_ne (show a0' ≠ v4' by decide) _ _).trans (V1_arg m d (by decide))
theorem V4_a1 (d : Dev nD) : V4 m d a1' = m (d, a1') := by
  rw [V4_off m d (by decide), V3_keeps m d main_arg1 (by decide)]
  exact (Function.update_of_ne (show a1' ≠ v4' by decide) _ _).trans (V1_arg m d (by decide))

/-! ## The launch element of the certificate's ghost state -/

/-- The pipeline's ghost state on a device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def uP : UP := initOf (Pipeline.cells (Pipeline.pin (pcfgs (F := F)) adm) cellOf_inj) (Pipeline.launchToks (Pipeline.pin (pcfgs (F := F)) adm) cellOf_inj)
def u₀ : UU := (initOf (K (F := F)).hsCells (K (F := F)).hsToks, (uP (F := F), (1 : Counters)))

abbrev Pm : (K (F := F)).Pay (nD := nD) (Val := Elt F) (Name := ℕ) (U := UU) := P (X1 m) (X3 m) (Z4 m)

theorem ghosts : (BI.own (EP (uP (F := F))) : sProp 𝕄) ⊢ |==> bigSep Finset.univ fun d => G d := by
  unfold uP
  iintro H
  imod (Pipeline.fund_ghost (Pipeline.pin (pcfgs (F := F)) adm) EP cellOf_inj) $$ H with ⟨Hg, Ht⟩
  imodintro
  rw [show (bigSep Finset.univ fun d : Dev nD => G (F := F) d)
      = iprop((bigSep Finset.univ fun d : Dev nD => Pipeline.cellsGhost (Pipeline.pin (pcfgs (F := F)) adm) EP 0 d)
        ∗ (bigSep Finset.univ fun d : Dev nD => Pipeline.toksInit (Pipeline.pin (pcfgs (F := F)) adm) EP 0 d)) from bigSep_sep _ _ _]
  isplitl [Hg]
  · iapply (Entails.of_eq (bigSep_congr fun (c : Dev nD) _ => bigSep_univ_of_subsingleton (0 : Fin 1)
      (Φ := fun p => Pipeline.cellsGhost (Pipeline.pin (pcfgs (F := F)) adm) EP p c)))
    iexact Hg
  · iapply (Entails.of_eq (bigSep_congr fun (c : Dev nD) _ => bigSep_univ_of_subsingleton (0 : Fin 1)
      (Φ := fun p => Pipeline.toksInit (Pipeline.pin (pcfgs (F := F)) adm) EP p c)))
    iexact Ht

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair (initOf (K (F := F)).hsCells (K (F := F)).hsToks) (uP (F := F), (1 : Counters))) $$ Hu
  icases H with ⟨HH, HR⟩
  ihave HR' := (own_pair_emb embR (uP (F := F)) (1 : Counters)) $$ HR
  icases HR' with ⟨HP, -⟩
  ihave HP' := (Entails.of_eq (show (BI.own (((Emb.inl : Emb UP (UP × Counters)).trans embR) (uP (F := F))) : sProp 𝕄) = BI.own (EP (uP (F := F))) from rfl)) $$ HP
  imod (ghosts (F := F)) $$ HP' with HG
  imodintro
  isplitl [HH]; · iexact HH
  isplitl [HG]; · iexact HG
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_nothing]
  iempintro

/-! ## The SparseCore call's arrays among the others -/

abbrev S3 : Finset (DevRef τ sig) := {v1', v3', v4'}

theorem held_S3 (d : Dev nD) (W : Valuation τ sig (Elt F)) :
    (held (SparseCore.T d) S3 W : sProp 𝕄) = iprop((aLoc d ↦{fullShare} W v1') ∗ (bLoc d ↦{fullShare} W v3') ∗ (oLoc d ↦{fullShare} W v4')) := by
  unfold held S3
  rw [SparseCore.bigSep_insert' (by decide), SparseCore.bigSep_insert' (by decide), bigSep_singleton]

theorem S3_sub : S3 ⊆ U := by decide

/-- The arrays held are the call's three and the rest, -/
theorem held_before (d : Dev nD) :
    (held (SparseCore.T d) U ((opFl1 (F := F)).result ((opSl1 (F := F)).result ((opFl0 (F := F)).result ((opSl0 (F := F)).result (V0 m d))))) : sProp 𝕄)
      = iprop(((aLoc d ↦{fullShare} X1 m d) ∗ (bLoc d ↦{fullShare} X3 m d) ∗ (oLoc d ↦{fullShare} Z4 m d)) ∗ held (SparseCore.T d) (U \ S3) (V1 m d)) := by
  show held (SparseCore.T d) U (V1 m d) = _
  rw [held_sub_split (SparseCore.T d) S3_sub, held_S3]
/-- and after the call, with the third at the partial sums, they are the arrays held again. -/
theorem held_after (d : Dev nD) :
    (held (SparseCore.T d) U (V2 m d) : sProp 𝕄)
      = iprop(((aLoc d ↦{fullShare} X1 m d) ∗ (bLoc d ↦{fullShare} X3 m d) ∗ (oLoc d ↦{fullShare} outY (X1 m d) (X3 m d))) ∗ held (SparseCore.T d) (U \ S3) (V1 m d)) := by
  rw [held_sub_split (SparseCore.T d) S3_sub, held_S3, V2_v1, V2_v3, V2_v4,
    held_congr (SparseCore.T d) (S := U \ S3) (V := V2 m d) (V' := V1 m d) fun b hb =>
      Function.update_of_ne (fun e => (Finset.mem_sdiff.mp hb).2 (by rw [e]; decide)) _ _]

/-! ## @main -/

/-- What @main leaves the claims: the two arguments and the result. -/
abbrev FIN (d : Dev nD) : sProp 𝕄 :=
  iprop(((SparseCore.T d).loc main_arg0 ↦{fullShare} V4 m d a0') ∗ ((SparseCore.T d).loc main_arg1 ↦{fullShare} V4 m d a1')
    ∗ ((SparseCore.T d).loc main_v9 ↦{fullShare} V4 m d v9'))

abbrev S3e : Finset (DevRef τ sig) := {a0', a1', v9'}
theorem held_end (d : Dev nD) :
    (held (SparseCore.T d) U ((opDiv (F := F)).result ((opCount (F := F)).result ((opAdd (F := F)).result ((opCell (F := F)).result
      ((opRed (F := F)).result ((opZero (F := F)).result (V3 m d))))))) : sProp 𝕄) ⊢ FIN m d := by
  show held (SparseCore.T d) U (V4 m d) ⊢ _
  rw [held_sub_split (SparseCore.T d) (show S3e ⊆ U by decide)]
  iintro ⟨H, -⟩
  iapply (Entails.of_eq (show (held (SparseCore.T d) S3e (V4 m d) : sProp 𝕄) = FIN m d from by
    unfold held S3e
    rw [SparseCore.bigSep_insert' (by decide), SparseCore.bigSep_insert' (by decide), bigSep_singleton]))
  iexact H

/-- Once every call is made, the waits a core has recorded may be any. -/
theorem below (d : Dev nD) (w) : (K (F := F)).WBelow (SparseCore.T d) w 8 := by
  intro p _
  rcases p.2 with _ | q
  · exact Nat.zero_le 8
  · have := (K (F := F)).lev_some_le (SparseCore.T d, p.1) q
    have := q.isLt
    show (K (F := F)).lev (SparseCore.T d, p.1) (some q) ≤ 8
    omega

/-- What a core owes once every call is made: nothing. -/
theorem Otc_one (d : Dev nD) : (K (F := F)).Otc d 1 = 0 := by
  exact (K (F := F)).Otc_end d (le_refl 1)

/-- After the SparseCore call, the TensorCore's state lends out what the core owes (nothing), and takes it back at any
    recorded waits. -/
theorem tcSt_one (d : Dev nD) :
    ((K (F := F)).tcSt EH d 1 : sProp 𝕄) ⊢ iprop((∃ w, owes (SparseCore.T d) (0 : CellTallies nD τ sig (HIx 1)) w)
      ∗ ((∃ w, owes (SparseCore.T d) (0 : CellTallies nD τ sig (HIx 1)) w) -∗ (K (F := F)).tcSt EH d 1)) := by
  unfold SparseCore.Cfg.tcSt
  rw [Otc_one]
  iintro ⟨⟨%w, -, HO⟩, Hrest⟩
  isplitl [HO]; · iexists _; iexact HO
  iintro ⟨%w', HO⟩
  isplitl [HO]
  · iexists _
    isplitr; · ipureintro; exact below d w'
    iexact HO
  iexact Hrest

/-- The launch facts hold the levels. -/
theorem ctx_levels (κ : GSem nD τ sig → ℕ) :
    ((K (F := F)).ctx EH (Pm m) κ : sProp 𝕄) ⊢ levAts (K (F := F)).L (K (F := F)).lev := by
  unfold SparseCore.Cfg.ctx
  exact sep_elim_left

/-- The TensorCore call, as the pipeline's own program makes it. -/
abbrev inner : Prog (TpuEff nD τ sig (Elt F) (ΛP (F := F)) .tc) PUnit := .op (.customCall (Pipeline.entry 0) ()) fun x => .ret x

/-- The TensorCore call, as @main makes it. -/
theorem call_run (d : Dev nD) (Q : PUnit → sProp 𝕄) :
    iprop((iprop(boundary (SparseCore.T d : Thread nD τ) ∗ held (SparseCore.T d) U (V3 m d)
            ∗ (∃ w, owes (SparseCore.T d) (0 : CellTallies nD τ sig (HIx 1)) w)) -∗ Q ⟨⟩)
        ∗ boundary (SparseCore.T d : Thread nD τ) ∗ held (SparseCore.T d) U (V2 m d)
        ∗ (∃ w, owes (SparseCore.T d) (0 : CellTallies nD τ sig (HIx 1)) w)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit) Q := by
  have h₁ := (K (F := F)).wp_liftProg (D (F := F)) 𝒱 (SparseCore.T d) Set.univ none inner Q
  have h₂ := region_run (V2 m) d (fun x => .ret x) Q
  refine BIBase.Entails.trans ?_ h₁
  refine BIBase.Entails.trans ?_ h₂
  iintro ⟨Hk, Hb, HW, HO, Hl, Hg, Ht⟩
  isplitl [Hk]
  · iintro H
    rw [wp_ret]
    imodintro
    iapply Hk
    iexact H
  isplitl [Hb]; · iexact Hb
  isplitl [HW]; · iexact HW
  isplitl [HO]; · iexact HO
  isplitl [Hl]; · iexact Hl
  isplitl [Hg]; · iexact Hg
  iexact Ht

theorem unscoped_held (d : Dev nD) : (unscopedBufs d (fun b => m ((SparseCore.T d).loc b)) : sProp 𝕄) = held (SparseCore.T d) U (V0 m d) :=
  Pipeline.unscopedBufs_held d (V0 m d)

/-- @main on a device's TensorCore: from the launch to the arguments unchanged and the result. -/
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opSl0) (S := U) hSl0 (V := V0 m d)) $$ [Hb Hheld]
  · isplitl [Hb] <;> iassumption
  iintro ⟨Hb, Hheld⟩
  rw [wp_ret]; imodintro
  iapply (wp_hlo_within 𝒱 (SparseCore.T d) none Set.univ (op := opFl0) (S := U) hFl0) $$ [Hb Hheld]
  · isplitl [Hb] <;> iassumption
  iintro ⟨Hb, Hheld⟩
  rw [wp_ret]; imodintro
  iapply (wp_hlo_within 𝒱 (SparseCore.T d) none Set.univ (op := opSl1) (S := U) hSl1) $$ [Hb Hheld]
  · isplitl [Hb] <;> iassumption
  iintro ⟨Hb, Hheld⟩
  rw [wp_ret]; imodintro
  iapply (wp_hlo_within 𝒱 (SparseCore.T d) none Set.univ (op := opFl1) (S := U) hFl1) $$ [Hb Hheld]
  · isplitl [Hb] <;> iassumption
  iintro ⟨Hb, Hheld⟩
  rw [wp_ret]; imodintro
  -- the SparseCore call, from its three arrays
  ihave Hh := (Entails.of_eq (held_before (F := F) m d)) $$ Hheld
  icases Hh with ⟨H3, Hrest⟩
  iapply ((K (F := F)).wp_run (D (F := F)) 𝒱 (EH := EH) (P := Pm m) κ d 0) $$ [Hst H3 Hb Hrest Hts HG]
  isplitr; · iexact Hctx
  isplitl [Hst]; · iexact Hst
  isplitl [H3]
  · rw [st_eq]
    iexact H3
  iintro ⟨Hst, Hdn⟩
  ihave H3 := (Entails.of_eq (dn_eq (F := F) (X1 m) (X3 m) (Z4 m) d)) $$ Hdn
  ihave Hst' := (show ((K (F := F)).tcSt EH d ((0 : Fin 1).val + 1) : sProp 𝕄) ⊢ _ from tcSt_one (F := F) d) $$ Hst
  icases Hst' with ⟨HO, Hback⟩
  -- the TensorCore call
  iapply (call_run (F := F) m d) $$ [H3 Hb Hrest Hts HG HO Hback]
  isplitr [Hb H3 Hrest HO HG]
  rotate_left
  · isplitl [Hb]; · iexact Hb
    isplitl [H3 Hrest]
    · rw [held_after]
      isplitl [H3]; · iexact H3
      iexact Hrest
    isplitl [HO]; · iexact HO
    isplitr [HG]
    · iapply (ctx_levels (F := F) m κ); iexact Hctx
    iexact HG
  iintro ⟨Hb, Hheld, HO⟩
  ihave Hst := Hback $$ HO
  iapply (wp_hlo_within 𝒱 (SparseCore.T d) none Set.univ (op := opZero) (S := U) hZero) $$ [Hb Hheld]
  · isplitl [Hb] <;> iassumption
  iintro ⟨Hb, Hheld⟩
  rw [wp_ret]; imodintro
  iapply (wp_hlo_within 𝒱 (SparseCore.T d) none Set.univ (op := opRed) (S := U) hRed) $$ [Hb Hheld]
  · isplitl [Hb] <;> iassumption
  iintro ⟨Hb, Hheld⟩
  rw [wp_ret]; imodintro
  iapply (wp_hlo_within 𝒱 (SparseCore.T d) none Set.univ (op := opCell) (S := U) hCell) $$ [Hb Hheld]
  · isplitl [Hb] <;> iassumption
  iintro ⟨Hb, Hheld⟩
  rw [wp_ret]; imodintro
  iapply (wp_hlo_within 𝒱 (SparseCore.T d) none Set.univ (op := opAdd) (S := U) hAdd) $$ [Hb Hheld]
  · isplitl [Hb] <;> iassumption
  iintro ⟨Hb, Hheld⟩
  rw [wp_ret]; imodintro
  iapply (wp_hlo_within 𝒱 (SparseCore.T d) none Set.univ (op := opCount) (S := U) hCount) $$ [Hb Hheld]
  · isplitl [Hb] <;> iassumption
  iintro ⟨Hb, Hheld⟩
  rw [wp_ret]; imodintro
  iapply (wp_hlo_within 𝒱 (SparseCore.T d) none Set.univ (op := opDiv) (S := U) hDiv) $$ [Hb Hheld]
  · isplitl [Hb] <;> iassumption
  iintro ⟨Hb, Hheld⟩
  rw [wp_ret]; imodintro; imodintro
  isplitl [Hst]; · iexact Hst
  isplitl [Hheld]
  · iapply (held_end (F := F) m d)
    iexact Hheld
  isplitl [Hb] <;> iassumption

/-- What the claims read of the final state. -/
def fq (d : Dev nD) (s' : Phys nD τ sig (Elt F)) : Prop :=
  s'.mem.mem ((SparseCore.T d).loc main_arg0) = V4 m d a0' ∧ s'.mem.mem ((SparseCore.T d).loc main_arg1) = V4 m d a1'
    ∧ s'.mem.mem ((SparseCore.T d).loc main_v9) = V4 m d v9'

theorem hfin (d : Dev nD) (s' : Phys nD τ sig (Elt F)) : iprop(FIN m d ∗ SI s') ⊢ (⌜fq m d s'⌝ : sProp 𝕄) := by
  iintro ⟨⟨H0, H1, H9⟩, HSI⟩
  ihave H := (persistent_entails_right (SI_pointsTo_agree (st := s') (ℓ := (SparseCore.T d).loc main_arg0) (I := Finset.univ) (q := fullShare) (f := V4 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V4 m d a1'))) $$ [HSI H1]
  · isplitl [HSI] <;> iassumption
  icases H with ⟨%h1, HSI, -⟩
  ihave H := (SI_pointsTo_agree (st := s') (ℓ := (SparseCore.T d).loc main_v9) (I := Finset.univ) (q := fullShare) (f := V4 m d v9')) $$ [HSI H9]
  · isplitl [HSI] <;> iassumption
  icases H with %h9
  ipureintro
  exact ⟨funext fun i => h0 i (Finset.mem_univ i), funext fun i => h1 i (Finset.mem_univ i), funext fun i => h9 i (Finset.mem_univ i)⟩

/-! ## The program's run -/

/-- The run's end: the result at the last contents of its array, the arguments unchanged, every counter at zero. -/
def QC : PUnit × MemSt nD τ sig (Elt F) → Prop := fun r =>
  (∀ c : Dev nD, r.2.mem ((c.tc : Thread nD τ).loc main_v9) = V4 m c v9'
    ∧ r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (X1 m) (X3 m) (Z4 m))
    (fun q _ => match q with | 0 => SparseCore.Cfg.VecSplit.of_plain (vecSplit (X1 m) (X3 m) (Z4 m)))
    m ρ main (fun d => G d) (FIN m) (u₀ (F := F)) (sep_elim_left.trans (hu₀ m)) (hmain m ρ) (fq m) (hfin m) (QC m)
    (fun _ h hz => ⟨fun c => ⟨(h c).2.2, (h c).1.trans (V4_a0 m c), (h c).2.1.trans (V4_a1 m c)⟩, hz⟩)

end Run

end Cert.Proof.Sc

end
-- ==== Proof.ScValue.lean ====
/-
  What the SparseCore call leaves, over the extended reals: each lane's four rows' losses.
-/
module

public import proofs.«01_k».proof.Proof.RefValue
public import proofs.«01_k».proof.Proof.Call
public import Idealize.ShloMosaic.Lib.Pointwise

@[expose] public section

set_option maxRecDepth 16384

noncomputable section

namespace Cert.Proof.Sc

open Idealize.ShloMosaic Idealize.ShloMosaic.TcCoe Cert.Proof.Math
open Cert.KernelIdeal Cert.KernelIdeal.Gen

/-! ## A run over a list of columns, at a lane -/

/-- Adding a list's columns to a vector adds, at a lane, the sum of their entries there. -/
theorem foldl_add_apply (g : ℕ → FVec Ideal S16 .f32) (x : S16.Idx) : ∀ (js : List ℕ) (a : FVec Ideal S16 .f32),
    (js.foldl (fun a j => addf a (g j)) a x : EReal) = (a x : EReal) + (js.map fun j => (g j x : EReal)).sum
  | [], a => (add_zero _).symm
  | j :: js, a => by
    rw [List.foldl_cons, foldl_add_apply g x js, List.map_cons, List.sum_cons, ← add_assoc]
    rfl

/-- A bound of the running maximum, at a lane, bounds the first entry and every column's. -/
theorem foldl_max_le (g : ℕ → FVec Ideal S16 .f32) (x : S16.Idx) (c : EReal) : ∀ (js : List ℕ) (a : FVec Ideal S16 .f32),
    (js.foldl (fun a j => maximumf a (g j)) a x : EReal) ≤ c ↔ (a x : EReal) ≤ c ∧ ∀ j ∈ js, (g j x : EReal) ≤ c
  | [], a => by simp
  | j :: js, a => by
    rw [List.foldl_cons, foldl_max_le g x c js]
    have e : (maximumf a (g j) x : EReal) = max (a x : EReal) (g j x : EReal) := rfl
    rw [e, max_le_iff, List.forall_mem_cons, and_assoc]

/-- The columns of the three runs, one after another. -/
abbrev cols : List ℕ := (0 :: js0) ++ ((1 :: js1) ++ (2 :: js2))

theorem cols_lt : ∀ j ∈ cols, j < 51 := by decide
theorem cols_all : ∀ k : Fin 51, k.val ∈ cols := by decide
theorem cols_perm : cols.Perm (List.range 51) := by decide

/-- The sum over three runs is the sum over the runs one after another. -/
theorem sum_three (h : ℕ → EReal) (a b c : ℕ) (la lb lc : List ℕ) :
    (h a + (la.map h).sum) + (h b + (lb.map h).sum) + (h c + (lc.map h).sum) = (((a :: la) ++ ((b :: lb) ++ (c :: lc))).map h).sum := by
  rw [List.map_append, List.map_append, List.sum_append, List.sum_append, List.map_cons, List.map_cons, List.map_cons,
    List.sum_cons, List.sum_cons, List.sum_cons, add_assoc]

/-- The sum over the three runs is the sum over the fifty-one columns. -/
theorem sum_cols (h : ℕ → EReal) :
    (h 0 + (js0.map h).sum) + (h 1 + (js1.map h).sum) + (h 2 + (js2.map h).sum) = ∑ k : Fin 51, h k.val := by
  rw [Fin.sum_univ_eq_sum_range h 51]
  have e : ∑ i ∈ Finset.range 51, h i = ((List.range 51).map h).sum := rfl
  rw [e, ← (cols_perm.map h).sum_eq]
  exact sum_three h 0 1 2 js0 js1 js2

/-! ## A trip, at a lane -/

section Trip

variable (X Y : Vec Ideal S3264 .f32) (v : IVec S16 32) (x : S16.Idx)

/-- A lane's row of a scratch. -/
abbrev lrow (X : Vec Ideal S3264 .f32) (v : IVec S16 32) (x : S16.Idx) : Fin 51 → EReal := fun k => col X v k.val x

/-- The maximum over the lane's row. -/
theorem tripMax_apply : (tripMax X v x : EReal) = rowMax (lrow X v x) := by
  refine eq_of_forall_ge_iff fun c => ?_
  have e : (tripMax X v x : EReal) = max (max (chMax X v 0 js0 x : EReal) (chMax X v 1 js1 x : EReal)) (chMax X v 2 js2 x : EReal) := rfl
  rw [e, max_le_iff, max_le_iff, foldl_max_le (fun j => col X v j), foldl_max_le (fun j => col X v j), foldl_max_le (fun j => col X v j)]
  unfold rowMax
  rw [Finset.fold_max_le]
  constructor
  · rintro ⟨⟨⟨h0, h0'⟩, h1, h1'⟩, h2, h2'⟩
    refine ⟨bot_le, fun k _ => ?_⟩
    have hk := cols_all k
    rcases List.mem_append.mp hk with h | h
    · rcases List.mem_cons.mp h with h | h
      · show (col X v k.val x : EReal) ≤ c; rw [h]; exact h0
      · exact h0' _ h
    rcases List.mem_append.mp h with h | h
    · rcases List.mem_cons.mp h with h | h
      · show (col X v k.val x : EReal) ≤ c; rw [h]; exact h1
      · exact h1' _ h
    · rcases List.mem_cons.mp h with h | h
      · show (col X v k.val x : EReal) ≤ c; rw [h]; exact h2
      · exact h2' _ h
  · rintro ⟨-, h⟩
    have hall : ∀ j ∈ cols, (col X v j x : EReal) ≤ c := fun j hj => h ⟨j, cols_lt j hj⟩ (Finset.mem_univ _)
    have h0 : ∀ j ∈ (0 :: js0), j ∈ cols := fun j hj => List.mem_append_left _ hj
    have h1 : ∀ j ∈ (1 :: js1), j ∈ cols := fun j hj => List.mem_append_right _ (List.mem_append_left _ hj)
    have h2 : ∀ j ∈ (2 :: js2), j ∈ cols := fun j hj => List.mem_append_right _ (List.mem_append_right _ hj)
    exact ⟨⟨⟨hall _ (h0 _ List.mem_cons_self), fun j hj => hall _ (h0 _ (List.mem_cons_of_mem _ hj))⟩,
      hall _ (h1 _ List.mem_cons_self), fun j hj => hall _ (h1 _ (List.mem_cons_of_mem _ hj))⟩,
      hall _ (h2 _ List.mem_cons_self), fun j hj => hall _ (h2 _ (List.mem_cons_of_mem _ hj))⟩

/-- A trip adds the loss of the lane's row. -/
theorem tripVal_apply (acc : FVec Ideal S16 .f32) : (tripVal X Y v acc x : EReal) = (acc x : EReal) + rowLoss (lrow X v x) (lrow Y v x) := by
  have e : (tripVal X Y v acc x : EReal) = (acc x : EReal)
      + ((Ideal.log ((chExp X v (tripMax X v) 0 js0 x : EReal) + (chExp X v (tripMax X v) 1 js1 x : EReal) + (chExp X v (tripMax X v) 2 js2 x : EReal))
          + (tripMax X v x : EReal)) * ((chSum Y v 0 js0 x : EReal) + (chSum Y v 1 js1 x : EReal) + (chSum Y v 2 js2 x : EReal))
        - ((chDot X Y v 0 js0 x : EReal) + (chDot X Y v 1 js1 x : EReal) + (chDot X Y v 2 js2 x : EReal))) := rfl
  have hE : (chExp X v (tripMax X v) 0 js0 x : EReal) + (chExp X v (tripMax X v) 1 js1 x : EReal) + (chExp X v (tripMax X v) 2 js2 x : EReal)
      = ∑ k : Fin 51, Ideal.exp (lrow X v x k - rowMax (lrow X v x)) := by
    rw [← tripMax_apply]
    have h := fun j₀ js => foldl_add_apply (fun j => exp (subf (col X v j) (tripMax X v))) x js (exp (subf (col X v j₀) (tripMax X v)))
    refine (congrArg₂ (· + ·) (congrArg₂ (· + ·) (h 0 js0) (h 1 js1)) (h 2 js2)).trans ?_
    exact sum_cols fun j => Ideal.exp ((col X v j x : EReal) - (tripMax X v x : EReal))
  have hT : (chSum Y v 0 js0 x : EReal) + (chSum Y v 1 js1 x : EReal) + (chSum Y v 2 js2 x : EReal) = ∑ k : Fin 51, lrow Y v x k := by
    have h := fun j₀ js => foldl_add_apply (fun j => col Y v j) x js (col Y v j₀)
    refine (congrArg₂ (· + ·) (congrArg₂ (· + ·) (h 0 js0) (h 1 js1)) (h 2 js2)).trans ?_
    exact sum_cols fun j => (col Y v j x : EReal)
  have hD : (chDot X Y v 0 js0 x : EReal) + (chDot X Y v 1 js1 x : EReal) + (chDot X Y v 2 js2 x : EReal) = ∑ k : Fin 51, lrow Y v x k * lrow X v x k := by
    have h := fun j₀ js => foldl_add_apply (fun j => mulf (col Y v j) (col X v j)) x js (mulf (col Y v j₀) (col X v j₀))
    refine (congrArg₂ (· + ·) (congrArg₂ (· + ·) (h 0 js0) (h 1 js1)) (h 2 js2)).trans ?_
    exact sum_cols fun j => (col Y v j x : EReal) * (col X v j x : EReal)
  rw [e, hE, hT, hD, tripMax_apply]
  rfl

end Trip

/-! ## The loop -/

/-- A lane after `n` trips holds the losses of its rows of those trips. -/
theorem accAt_apply (X Y : Vec Ideal S3264 .f32) (x : S16.Idx) (L : ℕ → EReal)
    (hL : ∀ (t : Fin k0_t1_loop.trips), rowLoss (lrow X (base t) x) (lrow Y (base t) x) = L t.val) :
    ∀ n : ℕ, n ≤ 4 → (accAt (F := Ideal) X Y n x : EReal) = ∑ t : Fin n, L t.val
  | 0, _ => by
    rw [Finset.univ_eq_empty, Finset.sum_empty]
    exact Ideal.ofBits_zero_f32
  | n + 1, h => by
    have ht : n < k0_t1_loop.trips := by rw [trips_eq]; omega
    have e : accAt (F := Ideal) X Y (n + 1) = tripVal X Y (base ⟨n, ht⟩) (accAt X Y n) := dif_pos ht
    rw [e, tripVal_apply, accAt_apply X Y x L hL n (by omega), hL ⟨n, ht⟩, Fin.sum_univ_castSucc]
    rfl

/-! ## The words as rows of the arguments -/

/-- Word `y` of a flattened operand is entry `y % 51` of row `y / 51`. -/
def Flat (X : Vec Ideal S104448 .f32) (a : Big.Idx → EReal) : Prop :=
  ∀ (r : Fin 2048) (k : Fin 51) (h : r.val * 51 + k.val < 104448),
    (X (fun a => ⟨r.val * 51 + k.val, by rw [Subsingleton.elim a 0]; exact h⟩) : EReal) = a (ix2 ⟨r.val, by omega⟩ k)

/-- The row that lane `x` of worker `w` reads at trip `t`. -/
def theRow (w : Fin 32) (x : Fin 16) (t : ℕ) (h : t < 4) : Fin 16384 := ⟨64 * w.val + 16 * t + x.val, by have := w.isLt; have := x.isLt; omega⟩

/-- Column `j` of the trip's rows, at a lane, is entry `j` of the lane's row of the argument. -/
theorem lrow_chunk (X : Vec Ideal S104448 .f32) (a : Big.Idx → EReal) (hX : Flat X a) (w : Fin 32) (x : S16.Idx) (t : Fin k0_t1_loop.trips) :
    lrow (chunk X w) (base t) x = row a (theRow w ((x 0).cast rfl) t.val (trips_eq ▸ t.isLt)) := by
  funext j
  have h := base_toNat t ((x 0).cast rfl)
  have hx : (fun a => ((x 0).cast rfl : Fin 16).cast (by rw [Subsingleton.elim a 0]; rfl) : S16.Idx) = x := by
    funext a
    have ha : a = (0 : Fin 1) := Subsingleton.elim _ _
    subst ha; rfl
  have ht : t.val < 4 := trips_eq ▸ t.isLt
  have hx0 : (x 0).val < 16 := (x 0).isLt
  have h' : (base t x).toNat = 51 * (x 0).val + 816 * t.val := (congrArg (fun z => (base t z).toNat) hx).symm.trans h
  have hj : j.val < 51 := j.isLt
  have hw : w.val < 32 := w.isLt
  have hword : (base t x + BitVec.ofNat 32 j.val).toNat = 51 * (x 0).val + 816 * t.val + j.val := by
    rw [BitVec.toNat_add, BitVec.toNat_ofNat, h', Nat.mod_eq_of_lt (show j.val < 2 ^ 32 by omega), Nat.mod_eq_of_lt (by omega)]
  have hrow := hX ⟨64 * w.val + 16 * t.val + (x 0).val, by omega⟩ j (by show (64 * w.val + 16 * t.val + (x 0).val) * 51 + j.val < 104448; omega)
  refine Eq.trans ?_ hrow
  show (X _ : EReal) = X _
  congr 1
  funext a
  apply Fin.ext
  show 3264 * w.val + (base t x + BitVec.ofNat 32 j.val).toNat % 3264 = (64 * w.val + 16 * t.val + (x 0).val) * 51 + j.val
  rw [hword, Nat.mod_eq_of_lt (by omega)]
  omega

/-- What the call leaves at a worker's lane: the losses of the lane's four rows. -/
theorem outY_apply (X1 X3 : Vec Ideal S104448 .f32) (a b : Big.Idx → EReal) (h1 : Flat X1 a) (h3 : Flat X3 b) (w : Fin 32) (x : Fin 16) :
    (outY (F := Ideal) X1 X3 (ix2 w x) : EReal) = ∑ t : Fin 4, rowLoss (row a (theRow w x t.val t.isLt)) (row b (theRow w x t.val t.isLt)) := by
  have := accAt_apply (chunk X1 w) (chunk X3 w) (fun a => ⟨x.val, by rw [Subsingleton.elim a 0]; exact x.isLt⟩)
    (fun t => if h : t < 4 then rowLoss (row a (theRow w x t h)) (row b (theRow w x t h)) else 0)
    (fun t => by
      rw [lrow_chunk X1 a h1, lrow_chunk X3 b h3, dif_pos (trips_eq ▸ t.isLt)]
      rfl) 4 le_rfl
  refine Eq.trans ?_ (this.trans (Finset.sum_congr rfl fun t _ => dif_pos t.isLt))
  rfl

end Cert.Proof.Sc

end
-- ==== Proof.TcValue.lean ====
/-
  What the TensorCore call leaves in its cell, over the extended reals: the losses of the rows from 2048 on.
-/
module

public import proofs.«01_k».proof.Proof.RefValue
public import proofs.«01_k».proof.Proof.Region

@[expose] public section

set_option maxRecDepth 16384

noncomputable section

namespace Cert.Proof.Sc

open Idealize.ShloMosaic Idealize.ShloMosaic.TcCoe Idealize.SL.Sem Cert.Proof.Math
open Cert.KernelIdeal Cert.KernelIdeal.Gen
open Idealize.ShloMosaic.Pipeline (Dat)

/-- The kernel's maximum over a row is the row's largest entry. -/
theorem max_row (v : FVec Ideal S1024x51 .f32) (r : Fin 1024) :
    multiReduction .maximumf [1] S1024 v 0xFF800000#32 reduces_S1024x51_S1024 (.inl rfl) rfl (ix1 r)
      = rowMax fun k => v (ix2 r k) := by
  pointwise
  rw [ofBits_neg_inf]
  rfl

/-- The sum of the row losses of a block. -/
def blockSum (x y : FVec Ideal S1024x51 .f32) : EReal := ∑ r : Fin 1024, rowLoss (fun k => x (ix2 r k)) (fun k => y (ix2 r k))

/-- One block's payload: what the cell held before, plus the block's 1024 row losses. -/
theorem pay_apply (v3 v4 : FVec Ideal S1024x51 .f32) (v19 : EReal) : k1_pay1 (F := Ideal) v3 v4 v19 = v19 + blockSum v3 v4 := by
  have hm := fun r => max_row v3 r
  unfold k1_pay1 blockSum
  generalize multiReduction .maximumf [1] S1024 v3 0xFF800000#32 reduces_S1024x51_S1024 (.inl rfl) rfl = M at hm ⊢
  pointwise
  simp only [hm]
  refine congrArg (v19 + ·) (Finset.sum_congr rfl fun r _ => ?_)
  rw [Fin.sum_univ_one]
  rfl

/-- The sum of the losses of a stretch of rows of the two arguments, from row `k * 1024` on. -/
def stretch (a b : Big.Idx → EReal) (k : ℕ) (h : k < 16) : EReal :=
  ∑ r : Fin 1024, rowLoss (row a ⟨k * 1024 + r.val, by have := r.isLt; omega⟩) (row b ⟨k * 1024 + r.val, by have := r.isLt; omega⟩)

theorem idx1 : ∀ t : Fin cfg1.N, win1_0.index t 0 = t.val + 2 ∧ win1_0.index t 1 = 0 ∧ win1_1.index t 0 = t.val + 2 ∧ win1_1.index t 1 = 0 :=
  (by decide +kernel : ∀ t : Fin grid1.N, _)

section Call

variable (W : Dev nD → Valuation τ sig (Elt Ideal))

/-- The two arguments as the call finds them. -/
abbrev argA (c : Dev nD) : Big.Idx → EReal := W c (Proc.devRef .tc (main_arg0 : Ref sig .tc))
abbrev argB (c : Dev nD) : Big.Idx → EReal := W c (Proc.devRef .tc (main_arg1 : Ref sig .tc))

/-- A point's blocks are 1024 rows of the arguments, two stretches on. -/
theorem block_eq (c : Dev nD) (t : Fin cfg1.N) (h : t.val + 2 < 16) :
    blockSum (blk W c 0 t) (blk W c 1 t) = stretch (argA W c) (argB W c) (t.val + 2) h := by
  obtain ⟨h0, h1, h2, h3⟩ := idx1 t
  refine Finset.sum_congr rfl fun r _ => ?_
  congr 1
  · funext k
    unfold blk row
    rw [View.read_apply]
    show argA W c _ = argA W c _
    congr 1
    funext a
    apply Fin.ext
    match a with
    | ⟨0, _⟩ => show win1_0.index t 0 * 1024 + 1 * r.val = (t.val + 2) * 1024 + r.val; rw [h0]; omega
    | ⟨1, _⟩ => show win1_0.index t 1 * 51 + 1 * k.val = k.val; rw [h1]; omega
  · funext k
    unfold blk row
    rw [View.read_apply]
    show argB W c _ = argB W c _
    congr 1
    funext a
    apply Fin.ext
    match a with
    | ⟨0, _⟩ => show win1_1.index t 0 * 1024 + 1 * r.val = (t.val + 2) * 1024 + r.val; rw [h2]; omega
    | ⟨1, _⟩ => show win1_1.index t 1 * 51 + 1 * k.val = k.val; rw [h3]; omega

/-- The running sum of the stretches' losses, from the third stretch on. -/
def tcRun (a b : Big.Idx → EReal) (n : ℕ) (h : n ≤ 14) : EReal :=
  ∑ k : Fin n, stretch a b (k.val + 2) (by have := k.isLt; omega)

/-- After point `n` the cell holds the losses of `n + 1` stretches. -/
theorem tcAcc_eq (c : Dev nD) : ∀ (n : ℕ) (h : n < cfg1.N), tcAcc (F := Ideal) W c n h
    = tcRun (argA W c) (argB W c) (n + 1) (lt_of_lt_of_eq h N_1)
  | 0, h => by
    have e : tcAcc (F := Ideal) W c 0 h = k1_pay1 (F := Ideal) (blk W c 0 ⟨0, h⟩) (blk W c 1 ⟨0, h⟩) (Scalar.ofBits (F := Ideal) .f32 0x00000000#32) := rfl
    rw [e]
    refine (pay_apply _ _ _).trans ?_
    rw [block_eq W c ⟨0, h⟩ (show 0 + 2 < 16 by decide)]
    unfold tcRun
    rw [Fin.sum_univ_one]
    show Ideal.ofBits .f32 0x00000000#32 + _ = _
    rw [Ideal.ofBits_zero_f32, zero_add]
    rfl
  | n + 1, h => by
    have hN : cfg1.N = 14 := N_1
    have e : tcAcc (F := Ideal) W c (n + 1) h = k1_pay1 (F := Ideal) (blk W c 0 ⟨n + 1, h⟩) (blk W c 1 ⟨n + 1, h⟩) (tcAcc (F := Ideal) W c n (Nat.lt_of_succ_lt h)) := rfl
    rw [e]
    refine (pay_apply _ _ _).trans ?_
    rw [block_eq W c ⟨n + 1, h⟩ (by show n + 1 + 2 < 16; omega), tcAcc_eq c n]
    unfold tcRun
    conv_rhs => rw [Fin.sum_univ_castSucc]
    rfl

/-- The cell after the last point, as an array. -/
abbrev tcTotal (c : Dev nD) : Buf (Elt Ideal) ((c.tc : Thread nD τ).loc main_v5) :=
  fun _ => tcRun (argA W c) (argB W c) 14 le_rfl

theorem flushed_eq (c : Dev nD) (t : Fin cfg1.N) (hf : (cfg1.win 2).flush t = true) :
    (dats W 0 c).flushed 2 t = ((cfg1.win 2).blk t).view.read (Elt Ideal) (tcTotal W c) := by
  have hN : cfg1.N = 14 := N_1
  have h3 : t.val = 13 := by have := (flush1_2 t).mp hf; have := t.isLt; omega
  obtain ⟨n, hn⟩ := t
  obtain rfl : n = 13 := h3
  show (cfg1.win 2).cut (grid1.coords _) ((dats W 0 c).after 2 _) = _
  rw [after_2, tcAcc_eq]
  rfl

theorem final_cell (c : Dev nD) : (dats W 0 c).arrAt 2 cfg1.N = tcTotal W c :=
  (dats W 0 c).arrAt_eq_of_cover 2 (tcTotal W c) (flushed_eq W c) fun i => by
    have hN : cfg1.N = 14 := N_1
    let t : Fin cfg1.N := ⟨13, by rw [hN]; decide⟩
    refine ⟨t, (flush1_2 t).mpr (by rfl), ?_⟩
    show i ∈ ((View.whole main_v5).slice (win1_2.rect t)).set
    rw [View.set_slice_whole, Rect.mem_set_unit]
    intro a
    have h0 : (i 0 : Nat) < 1 := (i 0).isLt
    have h1 : (i 1 : Nat) < 1 := (i 1).isLt
    match a with
    | ⟨0, _⟩ => show 0 ≤ (i 0 : Nat) ∧ (i 0 : Nat) < 1; omega
    | ⟨1, _⟩ => show 0 ≤ (i 1 : Nat) ∧ (i 1 : Nat) < 1; omega

/-- What the call leaves in its cell: the losses of fourteen stretches. -/
theorem left_cell (c : Dev nD) : left W c (Proc.devRef .tc (main_v5 : Ref sig .tc)) = tcTotal W c := by
  unfold left
  exact (Pipeline.afterRegion_arr (dats W 0 c) (W c) launch1.win.arr_inj 2).trans (final_cell W c)

end Call

end Cert.Proof.Sc

end
-- ==== Proof.Value.lean ====
/-
  The whole kernel's result, over the extended reals: the mean of the rows' losses.
-/
module

public import proofs.«01_k».proof.Proof.Main
public import proofs.«01_k».proof.Proof.ScValue
public import proofs.«01_k».proof.Proof.TcValue

@[expose] public section

set_option maxRecDepth 16384

noncomputable section

namespace Cert.Proof.Sc

open Idealize.ShloMosaic Idealize.ShloMosaic.TcCoe Idealize.SL.Sem Cert.Proof.Math
open Cert.KernelIdeal Cert.KernelIdeal.Gen

/-! ## The rows regrouped -/

/-- A sum over `n` blocks of `b` is the sum over all `n * b`. -/
theorem sum_blocks (n b : ℕ) (f : ℕ → EReal) : ∑ k : Fin n, ∑ r : Fin b, f (b * k.val + r.val) = ∑ i : Fin (n * b), f i.val := by
  rw [← Fintype.sum_prod_type' (f := fun (k : Fin n) (r : Fin b) => f (b * k.val + r.val))]
  refine Fintype.sum_equiv finProdFinEquiv _ _ fun x => congrArg f ?_
  show b * x.1.val + x.2.val = x.2.val + b * x.1.val
  omega

/-- The rows of the two calls together are all the rows: 32 workers' 16 lanes' 4 rows each, and 14 stretches of 1024. -/
theorem sum_rows (f : ℕ → EReal) :
    (∑ w : Fin 32, ∑ x : Fin 16, ∑ t : Fin 4, f (64 * w.val + 16 * t.val + x.val))
        + ∑ k : Fin 14, ∑ r : Fin 1024, f ((k.val + 2) * 1024 + r.val) = ∑ r : Fin 16384, f r.val := by
  have h1 : (∑ w : Fin 32, ∑ x : Fin 16, ∑ t : Fin 4, f (64 * w.val + 16 * t.val + x.val)) = ∑ i : Fin 2048, f i.val := by
    refine Eq.trans (Finset.sum_congr rfl fun w _ => ?_) (sum_blocks 32 64 f)
    rw [Finset.sum_comm]
    refine Eq.trans (Finset.sum_congr rfl fun t _ => Finset.sum_congr rfl fun x _ => ?_) (sum_blocks 4 16 fun i => f (64 * w.val + i))
    show f _ = f _
    congr 1; omega
  have h2 : (∑ k : Fin 14, ∑ r : Fin 1024, f ((k.val + 2) * 1024 + r.val)) = ∑ i : Fin 14336, f (2048 + i.val) := by
    refine Eq.trans (Finset.sum_congr rfl fun k _ => Finset.sum_congr rfl fun r _ => ?_) (sum_blocks 14 1024 fun i => f (2048 + i))
    show f _ = f _
    congr 1; omega
  rw [h1, h2]
  exact (Fin.sum_univ_add (a := 2048) (b := 14336) fun i : Fin (2048 + 14336) => f i.val).symm

/-! ## The flattened operands -/

section

variable (m : (ℓ : Loc nD τ sig) → Buf (Elt Ideal) ℓ)

/-- The two arguments at launch. -/
abbrev arg0 (d : Dev nD) : Big.Idx → EReal := m ((d.tc : Thread nD τ).loc main_arg0)
abbrev arg1 (d : Dev nD) : Big.Idx → EReal := m ((d.tc : Thread nD τ).loc main_arg1)

/-- The first 2048 rows of an argument, flattened. -/
abbrev flatten (a : Big.Idx → EReal) : Vec Ideal S104448 .f32 :=
  shapeCast S104448 (extractStridedSlice (s := S16384x51) S2048x51 ![0, 0] a slices_S16384x51_S2048x51_0_0) shapeCasts_S2048x51_S104448

theorem flatten_flat (a : Big.Idx → EReal) : Flat (flatten a) a := by
  intro r k h
  unfold flatten shapeCast
  rw [Shape.reshapeEquiv_eq_of_rowMajor (s := S2048x51) (s' := S104448) _ (y := (ix2 r k : S2048x51.Idx)) (by
    rw [Shape.rowMajor_val_one, Shape.rowMajor_val_two]
    rfl)]
  unfold extractStridedSlice
  show a _ = a _
  congr 1
  funext i
  apply Fin.ext
  match i with
  | ⟨0, _⟩ => show 0 + r.val = r.val; omega
  | ⟨1, _⟩ => show 0 + k.val = k.val; omega

theorem X1_eq (d : Dev nD) : X1 m d = flatten (arg0 m d) := by
  show StableHlo.after [opSl0, opFl0, opSl1, opFl1] (V0 m d) v1' = _
  after_results
  rfl
theorem X3_eq (d : Dev nD) : X3 m d = flatten (arg1 m d) := by
  show StableHlo.after [opSl0, opFl0, opSl1, opFl1] (V0 m d) v3' = _
  after_results
  rfl

/-! ## The result -/

/-- The result from the two calls' results: their sums, added, over the number of rows. -/
abbrev ending (y : FVec Ideal S32x16 .f32) (t : FVec Ideal S1x1 .f32) : FVec Ideal S_ .f32 :=
  Host.divf (addf (Host.reduceAdd y (constant (F := Ideal) S_ .f32 0x00000000#32) reducesTo_S32x16_S_d0_1 h_S_) (shapeCast S_ t shapeCasts_S1x1_S_))
    (constant (F := Ideal) S_ .f32 0x46800000#32)

theorem V4_v9 (d : Dev nD) : V4 m d v9' = ending (V3 m d v4') (V3 m d v5') := by
  show StableHlo.after [opZero, opRed, opCell, opAdd, opCount, opDiv] (V3 m d) v9' = _
  after_results
  rfl

/-- A row's loss, by the row's number. -/
def lossAt (a b : Big.Idx → EReal) (r : ℕ) : EReal := if h : r < 16384 then rowLoss (row a ⟨r, h⟩) (row b ⟨r, h⟩) else 0

theorem lossAt_of (a b : Big.Idx → EReal) (r : Fin 16384) : rowLoss (row a r) (row b r) = lossAt a b r.val := by
  unfold lossAt
  rw [dif_pos r.isLt]

theorem V2_a0 (d : Dev nD) : V2 m d a0' = arg0 m d := (Function.update_of_ne (show a0' ≠ v4' by decide) _ _).trans (V1_arg m d (by decide))
theorem V2_a1 (d : Dev nD) : V2 m d a1' = arg1 m d := (Function.update_of_ne (show a1' ≠ v4' by decide) _ _).trans (V1_arg m d (by decide))

theorem V3_v4 (d : Dev nD) : V3 m d v4' = outY (flatten (arg0 m d)) (flatten (arg1 m d)) := by
  rw [V3_keeps m d main_v4 (by decide), V2_v4, X1_eq, X3_eq]

theorem V3_v5 (d : Dev nD) : V3 m d v5' = fun _ => tcRun (arg0 m d) (arg1 m d) 14 le_rfl := by
  unfold V3
  refine (left_cell (V2 m) d).trans ?_
  unfold tcTotal argA argB
  rw [V2_a0, V2_a1]

/-- The partial sums, added up. -/
theorem sc_sum (y : FVec Ideal S32x16 .f32) (j : S_.Idx) :
    (Host.reduceAdd y (constant (F := Ideal) S_ .f32 0x00000000#32) reducesTo_S32x16_S_d0_1 h_S_ j : EReal)
      = ∑ w : Fin 32, ∑ x : Fin 16, (y (ix2 w x) : EReal) := by
  pointwise

/-- The ending, read at its index. -/
theorem ending_apply (y : FVec Ideal S32x16 .f32) (z : EReal) (j : S_.Idx) :
    ending y (fun _ => z) j = Ideal.div ((∑ w : Fin 32, ∑ x : Fin 16, (y (ix2 w x) : EReal)) + z) (Ideal.ofBits .f32 0x46800000#32) :=
  congrArg (fun q : EReal => Ideal.div (q + z) (Ideal.ofBits .f32 0x46800000#32)) (sc_sum y j)

/-- The result is the mean loss. -/
theorem result_eq (d : Dev nD) : V4 m d v9' = fun _ => meanLoss (arg0 m d) (arg1 m d) := by
  rw [V4_v9, V3_v4, V3_v5]
  funext j
  refine (ending_apply _ (tcRun (arg0 m d) (arg1 m d) 14 le_rfl) j).trans ?_
  unfold meanLoss
  refine congrArg (fun z => Ideal.div z (Ideal.ofBits .f32 0x46800000#32)) ?_
  refine Eq.trans (congrArg₂ (· + ·) ?_ ?_) ((sum_rows (lossAt (arg0 m d) (arg1 m d))).trans (Finset.sum_congr rfl fun r _ => (lossAt_of _ _ r).symm))
  · refine Finset.sum_congr rfl fun w _ => Finset.sum_congr rfl fun x _ => ?_
    rw [outY_apply _ _ _ _ (flatten_flat (arg0 m d)) (flatten_flat (arg1 m d))]
    exact Finset.sum_congr rfl fun t _ => lossAt_of _ _ (theRow w x t.val t.isLt)
  · unfold tcRun stretch
    exact Finset.sum_congr rfl fun k _ => Finset.sum_congr rfl fun r _ => lossAt_of _ _ _

/-- The whole program runs; its result is the mean loss, and its arguments end unchanged. -/
theorem kernel_run (ρ : Dev nD → PrngReg) :
    θ_run (Cert.KernelIdeal.defs (F := Ideal)) (Cert.KernelIdeal.threads (F := Ideal)) ⟨m, fun _ => 0, ρ⟩ fun r => ∀ c : Dev nD,
      r.2.mem ((c.tc : Thread nD τ).loc main_v9)
          = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.KernelIdeal.defs _ _).mono (fun _ h c => ⟨(h.1 c).1.trans (result_eq m c), (h.1 c).2⟩) (run_main (F := Ideal) m ρ)

end

end Cert.Proof.Sc

end
-- ==== Proof.Same.lean ====
/-
  The kernel's two programs are one: their procedures, and their threads, are equal over any floats.
-/
module

public import proofs.«01_k».proof.Proof.Gen.Kernel
public import proofs.«01_k».proof.Proof.Gen.KernelIdeal

@[expose] public section

set_option maxRecDepth 16384
set_option maxHeartbeats 1000000

noncomputable section

namespace Cert.Proof.Same

open Idealize.ShloMosaic

variable {F : FTy → Type} [FloatOps F]

/-- The bodies of the calls are the same at each processor and label. -/
theorem defs0_same : @Cert.Kernel.defs₀ F _ _ = @Cert.KernelIdeal.defs₀ F _ _ := by
  funext p ℓ a
  match p, ℓ, a with
  | .scVector c s, 0, _ => rfl
  | .tc, 1, (t, s) => rfl
  | .tc, 0, a => rfl
  | .scVector c s, 1, a => rfl
  | .scScalar c, 0, a => rfl
  | .scScalar c, 1, a => rfl

/-- The procedures are the same. -/
theorem defs_same : @Cert.Kernel.defs F _ _ = @Cert.KernelIdeal.defs F _ _ :=
  (congrArg (fun d => (Cert.Kernel.sc (F := F)).defs (Pipeline.defs Cert.Kernel.pcfgs d)) (defs0_same (F := F))).trans rfl

/-- The threads are the same. -/
theorem threads_same : @Cert.Kernel.threads F _ _ = @Cert.KernelIdeal.threads F _ _ := (rfl)

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Math
public import proofs.«01_k».proof.Proof.RefValue
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference runs from every memory, ends with its arguments unchanged and with every counter at zero. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's two programs have one text: each runs from every memory, ends with its arguments unchanged and with every
    counter at zero. -/
theorem frame_kernel : Cert.quiescent_Kernel := by
  intro m ρ _
  rw [Cert.Proof.Same.defs_same (F := Bits), Cert.Proof.Same.threads_same (F := Bits)]
  exact (θ_run (Cert.KernelIdeal.defs (F := Bits)) (Cert.KernelIdeal.threads (F := Bits)) ⟨m, fun _ => 0, ρ⟩).mono
    (fun _ h => ⟨fun c => (h.1 c).2, h.2⟩) (Cert.Proof.Sc.run_main (F := Bits) m ρ)
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Proof.Sc.run_main (F := Ideal) m g)

theorem claim : Cert.Claim := ⟨Cert.Kernel.Gen.facts, Cert.KernelIdeal.Gen.facts, Cert.ReferenceIdeal.Gen.facts, Cert.Pre_finite.Gen.facts,
  frame_kernel, fun m ρ _ => frame_ideal m ρ, fun m ρ _ => frame_ideal m ρ,
  fun m g _ => frame_ref m g, fun m g _ => frame_ref m g, trivial, by
  intro m g m' g' hpre hagree
  have hk := Cert.Proof.Sc.kernel_run m g
  refine ⟨_, hk, ?_⟩
  have hf := fun c => finite_of_pre _ _ (hpre c)
  refine (θ_run _ _ _).mono (fun r h c => ⟨(h c).1.trans ?_, (h c).2⟩) (ref_run m' g' (fun c => ?_) (fun c => ?_))
  · have e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) := (hagree c).1
    rw [e]; exact (hf c).1
  · have e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) := (hagree c).2
    rw [e]; exact (hf c).2
  · rw [(hagree c).1, (hagree c).2]; rfl⟩

end Cert.Proof

end
